-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x15x128x128 : Shape := ⟨4, ![64, 15, 128, 128]⟩
abbrev S960x128x128 : Shape := ⟨3, ![960, 128, 128]⟩
abbrev S5x64x49152 : Shape := ⟨3, ![5, 64, 49152]⟩
abbrev S1x128x128 : Shape := ⟨3, ![1, 128, 128]⟩
abbrev S1x1x16384 : Shape := ⟨3, ![1, 1, 16384]⟩
abbrev S2 : Shape := ⟨1, ![2]⟩
abbrev S16 : Shape := ⟨1, ![16]⟩
abbrev S1 : Shape := ⟨1, ![1]⟩
abbrev S_ : Shape := ⟨0, ![]⟩
abbrev S1x1x16 : Shape := ⟨3, ![1, 1, 16]⟩
abbrev S64x49152x5 : Shape := ⟨3, ![64, 49152, 5]⟩

abbrev nBuf : Table → Nat
  | .hbm => 4
  | .local .scVector .vmem => 4
  | _ => 0

abbrev bufTy : (tb : Table) → Fin (nBuf tb) → BufTy
  | .hbm, ⟨0, _⟩ => ⟨S64x15x128x128, .f32⟩
  | .hbm, ⟨1, _⟩ => ⟨S960x128x128, .f32⟩
  | .hbm, ⟨2, _⟩ => ⟨S5x64x49152, .f32⟩
  | .hbm, ⟨3, _⟩ => ⟨S64x49152x5, .f32⟩
  | .local .scVector .vmem, ⟨0, _⟩ => ⟨S1x128x128, .f32⟩
  | .local .scVector .vmem, ⟨1, _⟩ => ⟨S1x128x128, .f32⟩
  | .local .scVector .vmem, ⟨2, _⟩ => ⟨S1x1x16384, .f32⟩
  | .local .scVector .vmem, ⟨3, _⟩ => ⟨S1x1x16384, .f32⟩
  | _, _ => ⟨S64x15x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let v20 : BitVec 32 := Scalar.muli v1 c30_i32
  let c0_i32 : BitVec 32 := 0#32
  let v21 : BitVec 32 := Scalar.addi v20 c0_i32
  let c192_i32_12 : BitVec 32 := 192#32
  let c0_i32_13 : BitVec 32 := 0#32
  let v39 : BitVec 1 := Scalar.cmpi .eq c192_i32_12 c0_i32_13
  let c1_i32_14 : BitVec 32 := 1#32
  let v40 : BitVec 32 := Scalar.select v39 c1_i32_14 c192_i32_12
  let v41 : BitVec 32 := Scalar.remsi v21 v40
  let c0_i32_16 : BitVec 32 := 0#32
  let v43 : BitVec 1 := Scalar.cmpi .slt v41 c0_i32_16
  let c0_i32_17 : BitVec 32 := 0#32
  let v44 : BitVec 1 := Scalar.cmpi .slt v40 c0_i32_17
  let v45 : BitVec 1 := Scalar.xori v43 v44
  let c0_i32_15 : BitVec 32 := 0#32
  let v42 : BitVec 1 := Scalar.cmpi .ne v41 c0_i32_15
  let v46 : BitVec 1 := Scalar.andi v45 v42
  let v47 : BitVec 32 := Scalar.addi v41 v40
  let v48 : BitVec 32 := Scalar.select v46 v47 v41
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c3_i32 : BitVec 32 := 3#32
  let c0_i32_20 : BitVec 32 := 0#32
  let v55 : BitVec 1 := Scalar.cmpi .sgt c3_i32 c0_i32_20
  let v56 : BitVec 32 := Scalar.extui v55
  let c0_i32_21 : BitVec 32 := 0#32
  let v57 : BitVec 1 := Scalar.cmpi .slt c3_i32 c0_i32_21
  let v58 : BitVec 32 := Scalar.extui v57
  let v59 : BitVec 32 := Scalar.subi v56 v58
  let v60 : BitVec 1 := Scalar.cmpi .ne v54 v59
  let v61 : BitVec 32 := Scalar.remsi v48 c3_i32
  let c0_i32_22 : BitVec 32 := 0#32
  let v62 : BitVec 1 := Scalar.cmpi .ne v61 c0_i32_22
  let v63 : BitVec 1 := Scalar.andi v60 v62
  let v49 : BitVec 32 := Scalar.divsi v48 c3_i32
  let c1_i32_23 : BitVec 32 := 1#32
  let v64 : BitVec 32 := Scalar.subi v49 c1_i32_23
  let v65 : BitVec 32 := Scalar.select v63 v64 v49
  let c15_i32 : BitVec 32 := 15#32
  let v76 : BitVec 32 := Scalar.muli v65 c15_i32
  let c3_i32_24 : BitVec 32 := 3#32
  let c0_i32_25 : BitVec 32 := 0#32
  let v66 : BitVec 1 := Scalar.cmpi .eq c3_i32_24 c0_i32_25
  let c1_i32_26 : BitVec 32 := 1#32
  let v67 : BitVec 32 := Scalar.select v66 c1_i32_26 c3_i32_24
  let v68 : BitVec 32 := Scalar.remsi v48 v67
  let c0_i32_28 : BitVec 32 := 0#32
  let v70 : BitVec 1 := Scalar.cmpi .slt v68 c0_i32_28
  let c0_i32_29 : BitVec 32 := 0#32
  let v71 : BitVec 1 := Scalar.cmpi .slt v67 c0_i32_29
  let v72 : BitVec 1 := Scalar.xori v70 v71
  let c0_i32_27 : BitVec 32 := 0#32
  let v69 : BitVec 1 := Scalar.cmpi .ne v68 c0_i32_27
  let v73 : BitVec 1 := Scalar.andi v72 v69
  let v74 : BitVec 32 := Scalar.addi v68 v67
  let v75 : BitVec 32 := Scalar.select v73 v74 v68
  let c5_i32 : BitVec 32 := 5#32
  let v77 : BitVec 32 := Scalar.muli v75 c5_i32
  let v78 : BitVec 32 := Scalar.addi v76 v77
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c192_i32 : BitVec 32 := 192#32
  let c0_i32_9 : BitVec 32 := 0#32
  let v28 : BitVec 1 := Scalar.cmpi .sgt c192_i32 c0_i32_9
  let v29 : BitVec 32 := Scalar.extui v28
  let c0_i32_10 : BitVec 32 := 0#32
  let v30 : BitVec 1 := Scalar.cmpi .slt c192_i32 c0_i32_10
  let v31 : BitVec 32 := Scalar.extui v30
  let v32 : BitVec 32 := Scalar.subi v29 v31
  let v33 : BitVec 1 := Scalar.cmpi .ne v27 v32
  let v34 : BitVec 32 := Scalar.remsi v21 c192_i32
  let c0_i32_11 : BitVec 32 := 0#32
  let v35 : BitVec 1 := Scalar.cmpi .ne v34 c0_i32_11
  let v36 : BitVec 1 := Scalar.andi v33 v35
  let v22 : BitVec 32 := Scalar.divsi v21 c192_i32
  let c1_i32 : BitVec 32 := 1#32
  let v37 : BitVec 32 := Scalar.subi v22 c1_i32
  let v38 : BitVec 32 := Scalar.select v36 v37 v22
  let v79 : BitVec 32 := Scalar.addi v78 v38
  let c0_i32_31 : BitVec 32 := 0#32
  let c0_i32_32 : BitVec 32 := 0#32
  ![v79.toNat, 0, 0]
@[reducible] def k0_t1_loop : Scf.Loop 32 :=
  let c0_i32_36 : BitVec 32 := 0#32
  let c15_i32_37 : BitVec 32 := 15#32
  let v84 : BitVec 32 := Scalar.addi c0_i32_36 c15_i32_37
  let c1_i32_38 : BitVec 32 := 1#32
  ⟨c0_i32_36, v84, c1_i32_38⟩
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_100 : BitVec 32 := 30#32
  let v210 : BitVec 32 := Scalar.muli v1 c30_i32_100
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let v211 : BitVec 32 := Scalar.addi v210 v209
  let c192_i32_108 : BitVec 32 := 192#32
  let c0_i32_109 : BitVec 32 := 0#32
  let v229 : BitVec 1 := Scalar.cmpi .eq c192_i32_108 c0_i32_109
  let c1_i32_110 : BitVec 32 := 1#32
  let v230 : BitVec 32 := Scalar.select v229 c1_i32_110 c192_i32_108
  let v231 : BitVec 32 := Scalar.remsi v211 v230
  let c0_i32_112 : BitVec 32 := 0#32
  let v233 : BitVec 1 := Scalar.cmpi .slt v231 c0_i32_112
  let c0_i32_113 : BitVec 32 := 0#32
  let v234 : BitVec 1 := Scalar.cmpi .slt v230 c0_i32_113
  let v235 : BitVec 1 := Scalar.xori v233 v234
  let c0_i32_111 : BitVec 32 := 0#32
  let v232 : BitVec 1 := Scalar.cmpi .ne v231 c0_i32_111
  let v236 : BitVec 1 := Scalar.andi v235 v232
  let v237 : BitVec 32 := Scalar.addi v231 v230
  let v238 : BitVec 32 := Scalar.select v236 v237 v231
  let c0_i32_115 : BitVec 32 := 0#32
  let v240 : BitVec 1 := Scalar.cmpi .sgt v238 c0_i32_115
  let v241 : BitVec 32 := Scalar.extui v240
  let c0_i32_116 : BitVec 32 := 0#32
  let v242 : BitVec 1 := Scalar.cmpi .slt v238 c0_i32_116
  let v243 : BitVec 32 := Scalar.extui v242
  let v244 : BitVec 32 := Scalar.subi v241 v243
  let c3_i32_114 : BitVec 32 := 3#32
  let c0_i32_117 : BitVec 32 := 0#32
  let v245 : BitVec 1 := Scalar.cmpi .sgt c3_i32_114 c0_i32_117
  let v246 : BitVec 32 := Scalar.extui v245
  let c0_i32_118 : BitVec 32 := 0#32
  let v247 : BitVec 1 := Scalar.cmpi .slt c3_i32_114 c0_i32_118
  let v248 : BitVec 32 := Scalar.extui v247
  let v249 : BitVec 32 := Scalar.subi v246 v248
  let v250 : BitVec 1 := Scalar.cmpi .ne v244 v249
  let v251 : BitVec 32 := Scalar.remsi v238 c3_i32_114
  let c0_i32_119 : BitVec 32 := 0#32
  let v252 : BitVec 1 := Scalar.cmpi .ne v251 c0_i32_119
  let v253 : BitVec 1 := Scalar.andi v250 v252
  let v239 : BitVec 32 := Scalar.divsi v238 c3_i32_114
  let c1_i32_120 : BitVec 32 := 1#32
  let v254 : BitVec 32 := Scalar.subi v239 c1_i32_120
  let v255 : BitVec 32 := Scalar.select v253 v254 v239
  let c15_i32_127 : BitVec 32 := 15#32
  let v266 : BitVec 32 := Scalar.muli v255 c15_i32_127
  let c3_i32_121 : BitVec 32 := 3#32
  let c0_i32_122 : BitVec 32 := 0#32
  let v256 : BitVec 1 := Scalar.cmpi .eq c3_i32_121 c0_i32_122
  let c1_i32_123 : BitVec 32 := 1#32
  let v257 : BitVec 32 := Scalar.select v256 c1_i32_123 c3_i32_121
  let v258 : BitVec 32 := Scalar.remsi v238 v257
  let c0_i32_125 : BitVec 32 := 0#32
  let v260 : BitVec 1 := Scalar.cmpi .slt v258 c0_i32_125
  let c0_i32_126 : BitVec 32 := 0#32
  let v261 : BitVec 1 := Scalar.cmpi .slt v257 c0_i32_126
  let v262 : BitVec 1 := Scalar.xori v260 v261
  let c0_i32_124 : BitVec 32 := 0#32
  let v259 : BitVec 1 := Scalar.cmpi .ne v258 c0_i32_124
  let v263 : BitVec 1 := Scalar.andi v262 v259
  let v264 : BitVec 32 := Scalar.addi v258 v257
  let v265 : BitVec 32 := Scalar.select v263 v264 v258
  let c5_i32_128 : BitVec 32 := 5#32
  let v267 : BitVec 32 := Scalar.muli v265 c5_i32_128
  let v268 : BitVec 32 := Scalar.addi v266 v267
  let c0_i32_102 : BitVec 32 := 0#32
  let v213 : BitVec 1 := Scalar.cmpi .sgt v211 c0_i32_102
  let v214 : BitVec 32 := Scalar.extui v213
  let c0_i32_103 : BitVec 32 := 0#32
  let v215 : BitVec 1 := Scalar.cmpi .slt v211 c0_i32_103
  let v216 : BitVec 32 := Scalar.extui v215
  let v217 : BitVec 32 := Scalar.subi v214 v216
  let c192_i32_101 : BitVec 32 := 192#32
  let c0_i32_104 : BitVec 32 := 0#32
  let v218 : BitVec 1 := Scalar.cmpi .sgt c192_i32_101 c0_i32_104
  let v219 : BitVec 32 := Scalar.extui v218
  let c0_i32_105 : BitVec 32 := 0#32
  let v220 : BitVec 1 := Scalar.cmpi .slt c192_i32_101 c0_i32_105
  let v221 : BitVec 32 := Scalar.extui v220
  let v222 : BitVec 32 := Scalar.subi v219 v221
  let v223 : BitVec 1 := Scalar.cmpi .ne v217 v222
  let v224 : BitVec 32 := Scalar.remsi v211 c192_i32_101
  let c0_i32_106 : BitVec 32 := 0#32
  let v225 : BitVec 1 := Scalar.cmpi .ne v224 c0_i32_106
  let v226 : BitVec 1 := Scalar.andi v223 v225
  let v212 : BitVec 32 := Scalar.divsi v211 c192_i32_101
  let c1_i32_107 : BitVec 32 := 1#32
  let v227 : BitVec 32 := Scalar.subi v212 c1_i32_107
  let v228 : BitVec 32 := Scalar.select v226 v227 v212
  let v269 : BitVec 32 := Scalar.addi v268 v228
  let c0_i32_130 : BitVec 32 := 0#32
  let c0_i32_131 : BitVec 32 := 0#32
  ![v269.toNat, 0, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_134 : BitVec 32 := 30#32
  let v274 : BitVec 32 := Scalar.muli v1 c30_i32_134
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let v275 : BitVec 32 := Scalar.addi v274 v207
  let c192_i32_142 : BitVec 32 := 192#32
  let c0_i32_143 : BitVec 32 := 0#32
  let v293 : BitVec 1 := Scalar.cmpi .eq c192_i32_142 c0_i32_143
  let c1_i32_144 : BitVec 32 := 1#32
  let v294 : BitVec 32 := Scalar.select v293 c1_i32_144 c192_i32_142
  let v295 : BitVec 32 := Scalar.remsi v275 v294
  let c0_i32_146 : BitVec 32 := 0#32
  let v297 : BitVec 1 := Scalar.cmpi .slt v295 c0_i32_146
  let c0_i32_147 : BitVec 32 := 0#32
  let v298 : BitVec 1 := Scalar.cmpi .slt v294 c0_i32_147
  let v299 : BitVec 1 := Scalar.xori v297 v298
  let c0_i32_145 : BitVec 32 := 0#32
  let v296 : BitVec 1 := Scalar.cmpi .ne v295 c0_i32_145
  let v300 : BitVec 1 := Scalar.andi v299 v296
  let v301 : BitVec 32 := Scalar.addi v295 v294
  let v302 : BitVec 32 := Scalar.select v300 v301 v295
  let c0_i32_149 : BitVec 32 := 0#32
  let v304 : BitVec 1 := Scalar.cmpi .sgt v302 c0_i32_149
  let v305 : BitVec 32 := Scalar.extui v304
  let c0_i32_150 : BitVec 32 := 0#32
  let v306 : BitVec 1 := Scalar.cmpi .slt v302 c0_i32_150
  let v307 : BitVec 32 := Scalar.extui v306
  let v308 : BitVec 32 := Scalar.subi v305 v307
  let c3_i32_148 : BitVec 32 := 3#32
  let c0_i32_151 : BitVec 32 := 0#32
  let v309 : BitVec 1 := Scalar.cmpi .sgt c3_i32_148 c0_i32_151
  let v310 : BitVec 32 := Scalar.extui v309
  let c0_i32_152 : BitVec 32 := 0#32
  let v311 : BitVec 1 := Scalar.cmpi .slt c3_i32_148 c0_i32_152
  let v312 : BitVec 32 := Scalar.extui v311
  let v313 : BitVec 32 := Scalar.subi v310 v312
  let v314 : BitVec 1 := Scalar.cmpi .ne v308 v313
  let v315 : BitVec 32 := Scalar.remsi v302 c3_i32_148
  let c0_i32_153 : BitVec 32 := 0#32
  let v316 : BitVec 1 := Scalar.cmpi .ne v315 c0_i32_153
  let v317 : BitVec 1 := Scalar.andi v314 v316
  let v303 : BitVec 32 := Scalar.divsi v302 c3_i32_148
  let c1_i32_154 : BitVec 32 := 1#32
  let v318 : BitVec 32 := Scalar.subi v303 c1_i32_154
  let v319 : BitVec 32 := Scalar.select v317 v318 v303
  let c15_i32_161 : BitVec 32 := 15#32
  let v330 : BitVec 32 := Scalar.muli v319 c15_i32_161
  let c3_i32_155 : BitVec 32 := 3#32
  let c0_i32_156 : BitVec 32 := 0#32
  let v320 : BitVec 1 := Scalar.cmpi .eq c3_i32_155 c0_i32_156
  let c1_i32_157 : BitVec 32 := 1#32
  let v321 : BitVec 32 := Scalar.select v320 c1_i32_157 c3_i32_155
  let v322 : BitVec 32 := Scalar.remsi v302 v321
  let c0_i32_159 : BitVec 32 := 0#32
  let v324 : BitVec 1 := Scalar.cmpi .slt v322 c0_i32_159
  let c0_i32_160 : BitVec 32 := 0#32
  let v325 : BitVec 1 := Scalar.cmpi .slt v321 c0_i32_160
  let v326 : BitVec 1 := Scalar.xori v324 v325
  let c0_i32_158 : BitVec 32 := 0#32
  let v323 : BitVec 1 := Scalar.cmpi .ne v322 c0_i32_158
  let v327 : BitVec 1 := Scalar.andi v326 v323
  let v328 : BitVec 32 := Scalar.addi v322 v321
  let v329 : BitVec 32 := Scalar.select v327 v328 v322
  let c5_i32_162 : BitVec 32 := 5#32
  let v331 : BitVec 32 := Scalar.muli v329 c5_i32_162
  let v332 : BitVec 32 := Scalar.addi v330 v331
  let c0_i32_136 : BitVec 32 := 0#32
  let v277 : BitVec 1 := Scalar.cmpi .sgt v275 c0_i32_136
  let v278 : BitVec 32 := Scalar.extui v277
  let c0_i32_137 : BitVec 32 := 0#32
  let v279 : BitVec 1 := Scalar.cmpi .slt v275 c0_i32_137
  let v280 : BitVec 32 := Scalar.extui v279
  let v281 : BitVec 32 := Scalar.subi v278 v280
  let c192_i32_135 : BitVec 32 := 192#32
  let c0_i32_138 : BitVec 32 := 0#32
  let v282 : BitVec 1 := Scalar.cmpi .sgt c192_i32_135 c0_i32_138
  let v283 : BitVec 32 := Scalar.extui v282
  let c0_i32_139 : BitVec 32 := 0#32
  let v284 : BitVec 1 := Scalar.cmpi .slt c192_i32_135 c0_i32_139
  let v285 : BitVec 32 := Scalar.extui v284
  let v286 : BitVec 32 := Scalar.subi v283 v285
  let v287 : BitVec 1 := Scalar.cmpi .ne v281 v286
  let v288 : BitVec 32 := Scalar.remsi v275 c192_i32_135
  let c0_i32_140 : BitVec 32 := 0#32
  let v289 : BitVec 1 := Scalar.cmpi .ne v288 c0_i32_140
  let v290 : BitVec 1 := Scalar.andi v287 v289
  let v276 : BitVec 32 := Scalar.divsi v275 c192_i32_135
  let c1_i32_141 : BitVec 32 := 1#32
  let v291 : BitVec 32 := Scalar.subi v276 c1_i32_141
  let v292 : BitVec 32 := Scalar.select v290 v291 v276
  let v333 : BitVec 32 := Scalar.addi v332 v292
  let c0_i32_164 : BitVec 32 := 0#32
  let c0_i32_165 : BitVec 32 := 0#32
  ![v333.toNat, 0, 0]
def k0_cond1 (k0_t1 : Fin k0_t1_loop.trips) : BitVec 1 :=
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let c2_i32_168 : BitVec 32 := 2#32
  let v338 : BitVec 1 := Scalar.cmpi .sge v207 c2_i32_168
  let v339 : BitVec 32 := Scalar.extui v338
  let c0_i32_169 : BitVec 32 := 0#32
  let v340 : BitVec 1 := Scalar.cmpi .ne v339 c0_i32_169
  v340

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_347 : BitVec 32 := 30#32
  let v669 : BitVec 32 := Scalar.muli v1 c30_i32_347
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let c2_i32_346 : BitVec 32 := 2#32
  let v668 : BitVec 32 := Scalar.subi v207 c2_i32_346
  let v670 : BitVec 32 := Scalar.addi v669 v668
  let c0_i32_349 : BitVec 32 := 0#32
  let v672 : BitVec 1 := Scalar.cmpi .sgt v670 c0_i32_349
  let v673 : BitVec 32 := Scalar.extui v672
  let c0_i32_350 : BitVec 32 := 0#32
  let v674 : BitVec 1 := Scalar.cmpi .slt v670 c0_i32_350
  let v675 : BitVec 32 := Scalar.extui v674
  let v676 : BitVec 32 := Scalar.subi v673 v675
  let c192_i32_348 : BitVec 32 := 192#32
  let c0_i32_351 : BitVec 32 := 0#32
  let v677 : BitVec 1 := Scalar.cmpi .sgt c192_i32_348 c0_i32_351
  let v678 : BitVec 32 := Scalar.extui v677
  let c0_i32_352 : BitVec 32 := 0#32
  let v679 : BitVec 1 := Scalar.cmpi .slt c192_i32_348 c0_i32_352
  let v680 : BitVec 32 := Scalar.extui v679
  let v681 : BitVec 32 := Scalar.subi v678 v680
  let v682 : BitVec 1 := Scalar.cmpi .ne v676 v681
  let v683 : BitVec 32 := Scalar.remsi v670 c192_i32_348
  let c0_i32_353 : BitVec 32 := 0#32
  let v684 : BitVec 1 := Scalar.cmpi .ne v683 c0_i32_353
  let v685 : BitVec 1 := Scalar.andi v682 v684
  let v671 : BitVec 32 := Scalar.divsi v670 c192_i32_348
  let c1_i32_354 : BitVec 32 := 1#32
  let v686 : BitVec 32 := Scalar.subi v671 c1_i32_354
  let v687 : BitVec 32 := Scalar.select v685 v686 v671
  let c192_i32_355 : BitVec 32 := 192#32
  let c0_i32_356 : BitVec 32 := 0#32
  let v688 : BitVec 1 := Scalar.cmpi .eq c192_i32_355 c0_i32_356
  let c1_i32_357 : BitVec 32 := 1#32
  let v689 : BitVec 32 := Scalar.select v688 c1_i32_357 c192_i32_355
  let v690 : BitVec 32 := Scalar.remsi v670 v689
  let c0_i32_359 : BitVec 32 := 0#32
  let v692 : BitVec 1 := Scalar.cmpi .slt v690 c0_i32_359
  let c0_i32_360 : BitVec 32 := 0#32
  let v693 : BitVec 1 := Scalar.cmpi .slt v689 c0_i32_360
  let v694 : BitVec 1 := Scalar.xori v692 v693
  let c0_i32_358 : BitVec 32 := 0#32
  let v691 : BitVec 1 := Scalar.cmpi .ne v690 c0_i32_358
  let v695 : BitVec 1 := Scalar.andi v694 v691
  let v696 : BitVec 32 := Scalar.addi v690 v689
  let v697 : BitVec 32 := Scalar.select v695 v696 v690
  let c0_i32_362 : BitVec 32 := 0#32
  let v699 : BitVec 1 := Scalar.cmpi .sgt v697 c0_i32_362
  let v700 : BitVec 32 := Scalar.extui v699
  let c0_i32_363 : BitVec 32 := 0#32
  let v701 : BitVec 1 := Scalar.cmpi .slt v697 c0_i32_363
  let v702 : BitVec 32 := Scalar.extui v701
  let v703 : BitVec 32 := Scalar.subi v700 v702
  let c3_i32_361 : BitVec 32 := 3#32
  let c0_i32_364 : BitVec 32 := 0#32
  let v704 : BitVec 1 := Scalar.cmpi .sgt c3_i32_361 c0_i32_364
  let v705 : BitVec 32 := Scalar.extui v704
  let c0_i32_365 : BitVec 32 := 0#32
  let v706 : BitVec 1 := Scalar.cmpi .slt c3_i32_361 c0_i32_365
  let v707 : BitVec 32 := Scalar.extui v706
  let v708 : BitVec 32 := Scalar.subi v705 v707
  let v709 : BitVec 1 := Scalar.cmpi .ne v703 v708
  let v710 : BitVec 32 := Scalar.remsi v697 c3_i32_361
  let c0_i32_366 : BitVec 32 := 0#32
  let v711 : BitVec 1 := Scalar.cmpi .ne v710 c0_i32_366
  let v712 : BitVec 1 := Scalar.andi v709 v711
  let v698 : BitVec 32 := Scalar.divsi v697 c3_i32_361
  let c1_i32_367 : BitVec 32 := 1#32
  let v713 : BitVec 32 := Scalar.subi v698 c1_i32_367
  let v714 : BitVec 32 := Scalar.select v712 v713 v698
  let c3_i32_368 : BitVec 32 := 3#32
  let c0_i32_369 : BitVec 32 := 0#32
  let v715 : BitVec 1 := Scalar.cmpi .eq c3_i32_368 c0_i32_369
  let c1_i32_370 : BitVec 32 := 1#32
  let v716 : BitVec 32 := Scalar.select v715 c1_i32_370 c3_i32_368
  let v717 : BitVec 32 := Scalar.remsi v697 v716
  let c0_i32_372 : BitVec 32 := 0#32
  let v719 : BitVec 1 := Scalar.cmpi .slt v717 c0_i32_372
  let c0_i32_373 : BitVec 32 := 0#32
  let v720 : BitVec 1 := Scalar.cmpi .slt v716 c0_i32_373
  let v721 : BitVec 1 := Scalar.xori v719 v720
  let c0_i32_371 : BitVec 32 := 0#32
  let v718 : BitVec 1 := Scalar.cmpi .ne v717 c0_i32_371
  let v722 : BitVec 1 := Scalar.andi v721 v718
  let v723 : BitVec 32 := Scalar.addi v717 v716
  let v724 : BitVec 32 := Scalar.select v722 v723 v717
  let c16384_i32_374 : BitVec 32 := 16384#32
  let v725 : BitVec 32 := Scalar.muli v724 c16384_i32_374
  ![v687.toNat, v714.toNat, v725.toNat]
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_170 : BitVec 32 := 30#32
  let v341 : BitVec 32 := Scalar.muli v1 c30_i32_170
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let v342 : BitVec 32 := Scalar.addi v341 v207
  let c0_i32_172 : BitVec 32 := 0#32
  let v344 : BitVec 1 := Scalar.cmpi .sgt v342 c0_i32_172
  let v345 : BitVec 32 := Scalar.extui v344
  let c0_i32_173 : BitVec 32 := 0#32
  let v346 : BitVec 1 := Scalar.cmpi .slt v342 c0_i32_173
  let v347 : BitVec 32 := Scalar.extui v346
  let v348 : BitVec 32 := Scalar.subi v345 v347
  let c192_i32_171 : BitVec 32 := 192#32
  let c0_i32_174 : BitVec 32 := 0#32
  let v349 : BitVec 1 := Scalar.cmpi .sgt c192_i32_171 c0_i32_174
  let v350 : BitVec 32 := Scalar.extui v349
  let c0_i32_175 : BitVec 32 := 0#32
  let v351 : BitVec 1 := Scalar.cmpi .slt c192_i32_171 c0_i32_175
  let v352 : BitVec 32 := Scalar.extui v351
  let v353 : BitVec 32 := Scalar.subi v350 v352
  let v354 : BitVec 1 := Scalar.cmpi .ne v348 v353
  let v355 : BitVec 32 := Scalar.remsi v342 c192_i32_171
  let c0_i32_176 : BitVec 32 := 0#32
  let v356 : BitVec 1 := Scalar.cmpi .ne v355 c0_i32_176
  let v357 : BitVec 1 := Scalar.andi v354 v356
  let v343 : BitVec 32 := Scalar.divsi v342 c192_i32_171
  let c1_i32_177 : BitVec 32 := 1#32
  let v358 : BitVec 32 := Scalar.subi v343 c1_i32_177
  let v359 : BitVec 32 := Scalar.select v357 v358 v343
  let c0_i32_207 : BitVec 32 := 0#32
  let v405 : BitVec 32 := Scalar.maxsi v359 c0_i32_207
  let c4_i32 : BitVec 32 := 4#32
  let v406 : BitVec 32 := Scalar.minsi v405 c4_i32
  let c0_i32_208 : BitVec 32 := 0#32
  let v407 : BitVec 1 := Scalar.cmpi .ne v406 c0_i32_208
  v407

def k0_cond3 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_170 : BitVec 32 := 30#32
  let v341 : BitVec 32 := Scalar.muli v1 c30_i32_170
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let v342 : BitVec 32 := Scalar.addi v341 v207
  let c0_i32_172 : BitVec 32 := 0#32
  let v344 : BitVec 1 := Scalar.cmpi .sgt v342 c0_i32_172
  let v345 : BitVec 32 := Scalar.extui v344
  let c0_i32_173 : BitVec 32 := 0#32
  let v346 : BitVec 1 := Scalar.cmpi .slt v342 c0_i32_173
  let v347 : BitVec 32 := Scalar.extui v346
  let v348 : BitVec 32 := Scalar.subi v345 v347
  let c192_i32_171 : BitVec 32 := 192#32
  let c0_i32_174 : BitVec 32 := 0#32
  let v349 : BitVec 1 := Scalar.cmpi .sgt c192_i32_171 c0_i32_174
  let v350 : BitVec 32 := Scalar.extui v349
  let c0_i32_175 : BitVec 32 := 0#32
  let v351 : BitVec 1 := Scalar.cmpi .slt c192_i32_171 c0_i32_175
  let v352 : BitVec 32 := Scalar.extui v351
  let v353 : BitVec 32 := Scalar.subi v350 v352
  let v354 : BitVec 1 := Scalar.cmpi .ne v348 v353
  let v355 : BitVec 32 := Scalar.remsi v342 c192_i32_171
  let c0_i32_176 : BitVec 32 := 0#32
  let v356 : BitVec 1 := Scalar.cmpi .ne v355 c0_i32_176
  let v357 : BitVec 1 := Scalar.andi v354 v356
  let v343 : BitVec 32 := Scalar.divsi v342 c192_i32_171
  let c1_i32_177 : BitVec 32 := 1#32
  let v358 : BitVec 32 := Scalar.subi v343 c1_i32_177
  let v359 : BitVec 32 := Scalar.select v357 v358 v343
  let c0_i32_207 : BitVec 32 := 0#32
  let v405 : BitVec 32 := Scalar.maxsi v359 c0_i32_207
  let c4_i32 : BitVec 32 := 4#32
  let v406 : BitVec 32 := Scalar.minsi v405 c4_i32
  let c1_i32_346 : BitVec 32 := 1#32
  let v668 : BitVec 32 := Scalar.subi v406 c1_i32_346
  let c0_i32_347 : BitVec 32 := 0#32
  let v669 : BitVec 1 := Scalar.cmpi .ne v668 c0_i32_347
  v669

def k0_cond4 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_170 : BitVec 32 := 30#32
  let v341 : BitVec 32 := Scalar.muli v1 c30_i32_170
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let v342 : BitVec 32 := Scalar.addi v341 v207
  let c0_i32_172 : BitVec 32 := 0#32
  let v344 : BitVec 1 := Scalar.cmpi .sgt v342 c0_i32_172
  let v345 : BitVec 32 := Scalar.extui v344
  let c0_i32_173 : BitVec 32 := 0#32
  let v346 : BitVec 1 := Scalar.cmpi .slt v342 c0_i32_173
  let v347 : BitVec 32 := Scalar.extui v346
  let v348 : BitVec 32 := Scalar.subi v345 v347
  let c192_i32_171 : BitVec 32 := 192#32
  let c0_i32_174 : BitVec 32 := 0#32
  let v349 : BitVec 1 := Scalar.cmpi .sgt c192_i32_171 c0_i32_174
  let v350 : BitVec 32 := Scalar.extui v349
  let c0_i32_175 : BitVec 32 := 0#32
  let v351 : BitVec 1 := Scalar.cmpi .slt c192_i32_171 c0_i32_175
  let v352 : BitVec 32 := Scalar.extui v351
  let v353 : BitVec 32 := Scalar.subi v350 v352
  let v354 : BitVec 1 := Scalar.cmpi .ne v348 v353
  let v355 : BitVec 32 := Scalar.remsi v342 c192_i32_171
  let c0_i32_176 : BitVec 32 := 0#32
  let v356 : BitVec 1 := Scalar.cmpi .ne v355 c0_i32_176
  let v357 : BitVec 1 := Scalar.andi v354 v356
  let v343 : BitVec 32 := Scalar.divsi v342 c192_i32_171
  let c1_i32_177 : BitVec 32 := 1#32
  let v358 : BitVec 32 := Scalar.subi v343 c1_i32_177
  let v359 : BitVec 32 := Scalar.select v357 v358 v343
  let c0_i32_207 : BitVec 32 := 0#32
  let v405 : BitVec 32 := Scalar.maxsi v359 c0_i32_207
  let c4_i32 : BitVec 32 := 4#32
  let v406 : BitVec 32 := Scalar.minsi v405 c4_i32
  let c1_i32_346 : BitVec 32 := 1#32
  let v668 : BitVec 32 := Scalar.subi v406 c1_i32_346
  let c1_i32_348 : BitVec 32 := 1#32
  let v670 : BitVec 32 := Scalar.subi v668 c1_i32_348
  let c0_i32_349 : BitVec 32 := 0#32
  let v671 : BitVec 1 := Scalar.cmpi .ne v670 c0_i32_349
  v671

def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_170 : BitVec 32 := 30#32
  let v341 : BitVec 32 := Scalar.muli v1 c30_i32_170
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let v342 : BitVec 32 := Scalar.addi v341 v207
  let c0_i32_172 : BitVec 32 := 0#32
  let v344 : BitVec 1 := Scalar.cmpi .sgt v342 c0_i32_172
  let v345 : BitVec 32 := Scalar.extui v344
  let c0_i32_173 : BitVec 32 := 0#32
  let v346 : BitVec 1 := Scalar.cmpi .slt v342 c0_i32_173
  let v347 : BitVec 32 := Scalar.extui v346
  let v348 : BitVec 32 := Scalar.subi v345 v347
  let c192_i32_171 : BitVec 32 := 192#32
  let c0_i32_174 : BitVec 32 := 0#32
  let v349 : BitVec 1 := Scalar.cmpi .sgt c192_i32_171 c0_i32_174
  let v350 : BitVec 32 := Scalar.extui v349
  let c0_i32_175 : BitVec 32 := 0#32
  let v351 : BitVec 1 := Scalar.cmpi .slt c192_i32_171 c0_i32_175
  let v352 : BitVec 32 := Scalar.extui v351
  let v353 : BitVec 32 := Scalar.subi v350 v352
  let v354 : BitVec 1 := Scalar.cmpi .ne v348 v353
  let v355 : BitVec 32 := Scalar.remsi v342 c192_i32_171
  let c0_i32_176 : BitVec 32 := 0#32
  let v356 : BitVec 1 := Scalar.cmpi .ne v355 c0_i32_176
  let v357 : BitVec 1 := Scalar.andi v354 v356
  let v343 : BitVec 32 := Scalar.divsi v342 c192_i32_171
  let c1_i32_177 : BitVec 32 := 1#32
  let v358 : BitVec 32 := Scalar.subi v343 c1_i32_177
  let v359 : BitVec 32 := Scalar.select v357 v358 v343
  let c0_i32_207 : BitVec 32 := 0#32
  let v405 : BitVec 32 := Scalar.maxsi v359 c0_i32_207
  let c4_i32 : BitVec 32 := 4#32
  let v406 : BitVec 32 := Scalar.minsi v405 c4_i32
  let c1_i32_346 : BitVec 32 := 1#32
  let v668 : BitVec 32 := Scalar.subi v406 c1_i32_346
  let c1_i32_348 : BitVec 32 := 1#32
  let v670 : BitVec 32 := Scalar.subi v668 c1_i32_348
  let c1_i32_350 : BitVec 32 := 1#32
  let v672 : BitVec 32 := Scalar.subi v670 c1_i32_350
  let c0_i32_351 : BitVec 32 := 0#32
  let v673 : BitVec 1 := Scalar.cmpi .ne v672 c0_i32_351
  v673

@[reducible] def k0_t2_loop : Scf.Loop 32 :=
  let c0_i32_352 : BitVec 32 := 0#32
  let c32_i32 : BitVec 32 := 32#32
  let v674 : BitVec 32 := Scalar.addi c0_i32_352 c32_i32
  let c1_i32_353 : BitVec 32 := 1#32
  ⟨c0_i32_352, v674, c1_i32_353⟩
def k0_off5 (k0_t2 : Fin k0_t2_loop.trips) (c0_i32_358 : BitVec 32) : Fin 3 → Nat :=
  let c0_i32_359 : BitVec 32 := 0#32
  let v679 : Index := Scalar.indexCast c0_i32_359
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v680 : Index := Scalar.indexCast v678
  let c0 : Index := 0#32
  ![0, v680.toNat, 0]
def k0_off6 (k0_t2 : Fin k0_t2_loop.trips) (c0_i32_358 : BitVec 32) (c0_i32_365 : BitVec 32) : Fin 3 → Nat :=
  let c0_i32_366 : BitVec 32 := 0#32
  let v699 : Index := Scalar.indexCast c0_i32_366
  let c0_i32_367 : BitVec 32 := 0#32
  let v700 : Index := Scalar.indexCast c0_i32_367
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let c128_i32 : BitVec 32 := 128#32
  let v697 : BitVec 32 := Scalar.muli v678 c128_i32
  let v698 : BitVec 32 := Scalar.addi v697 c0_i32_365
  let v701 : Index := Scalar.indexCast v698
  ![0, 0, v701.toNat]
def k0_off7 (k0_t2 : Fin k0_t2_loop.trips) (c0_i32_358 : BitVec 32) : Fin 3 → Nat :=
  let c0_i32_368 : BitVec 32 := 0#32
  let v703 : Index := Scalar.indexCast c0_i32_368
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v704 : Index := Scalar.indexCast v678
  let c16 : Index := 16#32
  ![0, v704.toNat, 16]
def k0_off8 (k0_t2 : Fin k0_t2_loop.trips) (c0_i32_358 : BitVec 32) : Fin 3 → Nat :=
  let c0_i32_377 : BitVec 32 := 0#32
  let v727 : Index := Scalar.indexCast c0_i32_377
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v728 : Index := Scalar.indexCast v678
  let c32 : Index := 32#32
  ![0, v728.toNat, 32]
def k0_off9 (k0_t2 : Fin k0_t2_loop.trips) (c0_i32_358 : BitVec 32) : Fin 3 → Nat :=
  let c0_i32_387 : BitVec 32 := 0#32
  let v751 : Index := Scalar.indexCast c0_i32_387
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v752 : Index := Scalar.indexCast v678
  let c48 : Index := 48#32
  ![0, v752.toNat, 48]
def k0_off10 (k0_t2 : Fin k0_t2_loop.trips) (c0_i32_358 : BitVec 32) : Fin 3 → Nat :=
  let c0_i32_396 : BitVec 32 := 0#32
  let v775 : Index := Scalar.indexCast c0_i32_396
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v776 : Index := Scalar.indexCast v678
  let c64 : Index := 64#32
  ![0, v776.toNat, 64]
def k0_off11 (k0_t2 : Fin k0_t2_loop.trips) (c0_i32_358 : BitVec 32) : Fin 3 → Nat :=
  let c0_i32_405 : BitVec 32 := 0#32
  let v799 : Index := Scalar.indexCast c0_i32_405
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v800 : Index := Scalar.indexCast v678
  let c80 : Index := 80#32
  ![0, v800.toNat, 80]
def k0_off12 (k0_t2 : Fin k0_t2_loop.trips) (c0_i32_358 : BitVec 32) : Fin 3 → Nat :=
  let c0_i32_414 : BitVec 32 := 0#32
  let v823 : Index := Scalar.indexCast c0_i32_414
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v824 : Index := Scalar.indexCast v678
  let c96 : Index := 96#32
  ![0, v824.toNat, 96]
def k0_off13 (k0_t2 : Fin k0_t2_loop.trips) (c0_i32_358 : BitVec 32) : Fin 3 → Nat :=
  let c0_i32_423 : BitVec 32 := 0#32
  let v847 : Index := Scalar.indexCast c0_i32_423
  let c0_i32_356 : BitVec 32 := 0#32
  let c0_i32_352 : BitVec 32 := 0#32
  let c1_i32_353 : BitVec 32 := 1#32
  let arg11 : BitVec 32 := Scf.iv c0_i32_352 c1_i32_353 k0_t2
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v848 : Index := Scalar.indexCast v678
  let c112 : Index := 112#32
  ![0, v848.toNat, 112]
@[reducible] def k0_t3_loop : Scf.Loop 32 :=
  let c0_i32_352 : BitVec 32 := 0#32
  let c32_i32 : BitVec 32 := 32#32
  let v674 : BitVec 32 := Scalar.addi c0_i32_352 c32_i32
  let c1_i32_353 : BitVec 32 := 1#32
  ⟨c0_i32_352, v674, c1_i32_353⟩
def k0_off14 (k0_t3 : Fin k0_t3_loop.trips) (c0_i32_358 : BitVec 32) : Fin 3 → Nat :=
  let c0_i32_359 : BitVec 32 := 0#32
  let v679 : Index := Scalar.indexCast c0_i32_359
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v680 : Index := Scalar.indexCast v678
  let c0 : Index := 0#32
  ![0, v680.toNat, 0]
def k0_off15 (k0_t3 : Fin k0_t3_loop.trips) (c0_i32_358 : BitVec 32) (c0_i32_360 : BitVec 32) : Fin 3 → Nat :=
  let c0_i32_361 : BitVec 32 := 0#32
  let v687 : Index := Scalar.indexCast c0_i32_361
  let c0_i32_362 : BitVec 32 := 0#32
  let v688 : Index := Scalar.indexCast c0_i32_362
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let c128_i32 : BitVec 32 := 128#32
  let v685 : BitVec 32 := Scalar.muli v678 c128_i32
  let v686 : BitVec 32 := Scalar.addi v685 c0_i32_360
  let v689 : Index := Scalar.indexCast v686
  ![0, 0, v689.toNat]
def k0_off16 (k0_t3 : Fin k0_t3_loop.trips) (c0_i32_358 : BitVec 32) : Fin 3 → Nat :=
  let c0_i32_363 : BitVec 32 := 0#32
  let v691 : Index := Scalar.indexCast c0_i32_363
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v692 : Index := Scalar.indexCast v678
  let c16 : Index := 16#32
  ![0, v692.toNat, 16]
def k0_off17 (k0_t3 : Fin k0_t3_loop.trips) (c0_i32_358 : BitVec 32) : Fin 3 → Nat :=
  let c0_i32_367 : BitVec 32 := 0#32
  let v703 : Index := Scalar.indexCast c0_i32_367
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v704 : Index := Scalar.indexCast v678
  let c32 : Index := 32#32
  ![0, v704.toNat, 32]
def k0_off18 (k0_t3 : Fin k0_t3_loop.trips) (c0_i32_358 : BitVec 32) : Fin 3 → Nat :=
  let c0_i32_372 : BitVec 32 := 0#32
  let v715 : Index := Scalar.indexCast c0_i32_372
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v716 : Index := Scalar.indexCast v678
  let c48 : Index := 48#32
  ![0, v716.toNat, 48]
def k0_off19 (k0_t3 : Fin k0_t3_loop.trips) (c0_i32_358 : BitVec 32) : Fin 3 → Nat :=
  let c0_i32_376 : BitVec 32 := 0#32
  let v727 : Index := Scalar.indexCast c0_i32_376
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v728 : Index := Scalar.indexCast v678
  let c64 : Index := 64#32
  ![0, v728.toNat, 64]
def k0_off20 (k0_t3 : Fin k0_t3_loop.trips) (c0_i32_358 : BitVec 32) : Fin 3 → Nat :=
  let c0_i32_380 : BitVec 32 := 0#32
  let v739 : Index := Scalar.indexCast c0_i32_380
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v740 : Index := Scalar.indexCast v678
  let c80 : Index := 80#32
  ![0, v740.toNat, 80]
def k0_off21 (k0_t3 : Fin k0_t3_loop.trips) (c0_i32_358 : BitVec 32) : Fin 3 → Nat :=
  let c0_i32_384 : BitVec 32 := 0#32
  let v751 : Index := Scalar.indexCast c0_i32_384
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v752 : Index := Scalar.indexCast v678
  let c96 : Index := 96#32
  ![0, v752.toNat, 96]
def k0_off22 (k0_t3 : Fin k0_t3_loop.trips) (c0_i32_358 : BitVec 32) : Fin 3 → Nat :=
  let c0_i32_388 : BitVec 32 := 0#32
  let v763 : Index := Scalar.indexCast c0_i32_388
  let c0_i32_356 : BitVec 32 := 0#32
  let c0_i32_352 : BitVec 32 := 0#32
  let c1_i32_353 : BitVec 32 := 1#32
  let arg11 : BitVec 32 := Scf.iv c0_i32_352 c1_i32_353 k0_t3
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v764 : Index := Scalar.indexCast v678
  let c112 : Index := 112#32
  ![0, v764.toNat, 112]
@[reducible] def k0_t4_loop : Scf.Loop 32 :=
  let c0_i32_350 : BitVec 32 := 0#32
  let c32_i32 : BitVec 32 := 32#32
  let v672 : BitVec 32 := Scalar.addi c0_i32_350 c32_i32
  let c1_i32_351 : BitVec 32 := 1#32
  ⟨c0_i32_350, v672, c1_i32_351⟩
def k0_off23 (k0_t4 : Fin k0_t4_loop.trips) (c0_i32_356 : BitVec 32) : Fin 3 → Nat :=
  let c0_i32_357 : BitVec 32 := 0#32
  let v677 : Index := Scalar.indexCast c0_i32_357
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v678 : Index := Scalar.indexCast v676
  let c0 : Index := 0#32
  ![0, v678.toNat, 0]
def k0_off24 (k0_t4 : Fin k0_t4_loop.trips) (c0_i32_356 : BitVec 32) (c0_i32_358 : BitVec 32) : Fin 3 → Nat :=
  let c0_i32_359 : BitVec 32 := 0#32
  let v685 : Index := Scalar.indexCast c0_i32_359
  let c0_i32_360 : BitVec 32 := 0#32
  let v686 : Index := Scalar.indexCast c0_i32_360
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let c128_i32 : BitVec 32 := 128#32
  let v683 : BitVec 32 := Scalar.muli v676 c128_i32
  let v684 : BitVec 32 := Scalar.addi v683 c0_i32_358
  let v687 : Index := Scalar.indexCast v684
  ![0, 0, v687.toNat]
def k0_off25 (k0_t4 : Fin k0_t4_loop.trips) (c0_i32_356 : BitVec 32) : Fin 3 → Nat :=
  let c0_i32_361 : BitVec 32 := 0#32
  let v689 : Index := Scalar.indexCast c0_i32_361
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v690 : Index := Scalar.indexCast v676
  let c16 : Index := 16#32
  ![0, v690.toNat, 16]
def k0_off26 (k0_t4 : Fin k0_t4_loop.trips) (c0_i32_356 : BitVec 32) : Fin 3 → Nat :=
  let c0_i32_365 : BitVec 32 := 0#32
  let v701 : Index := Scalar.indexCast c0_i32_365
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v702 : Index := Scalar.indexCast v676
  let c32 : Index := 32#32
  ![0, v702.toNat, 32]
def k0_off27 (k0_t4 : Fin k0_t4_loop.trips) (c0_i32_356 : BitVec 32) : Fin 3 → Nat :=
  let c0_i32_370 : BitVec 32 := 0#32
  let v713 : Index := Scalar.indexCast c0_i32_370
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v714 : Index := Scalar.indexCast v676
  let c48 : Index := 48#32
  ![0, v714.toNat, 48]
def k0_off28 (k0_t4 : Fin k0_t4_loop.trips) (c0_i32_356 : BitVec 32) : Fin 3 → Nat :=
  let c0_i32_374 : BitVec 32 := 0#32
  let v725 : Index := Scalar.indexCast c0_i32_374
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v726 : Index := Scalar.indexCast v676
  let c64 : Index := 64#32
  ![0, v726.toNat, 64]
def k0_off29 (k0_t4 : Fin k0_t4_loop.trips) (c0_i32_356 : BitVec 32) : Fin 3 → Nat :=
  let c0_i32_378 : BitVec 32 := 0#32
  let v737 : Index := Scalar.indexCast c0_i32_378
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v738 : Index := Scalar.indexCast v676
  let c80 : Index := 80#32
  ![0, v738.toNat, 80]
def k0_off30 (k0_t4 : Fin k0_t4_loop.trips) (c0_i32_356 : BitVec 32) : Fin 3 → Nat :=
  let c0_i32_382 : BitVec 32 := 0#32
  let v749 : Index := Scalar.indexCast c0_i32_382
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v750 : Index := Scalar.indexCast v676
  let c96 : Index := 96#32
  ![0, v750.toNat, 96]
def k0_off31 (k0_t4 : Fin k0_t4_loop.trips) (c0_i32_356 : BitVec 32) : Fin 3 → Nat :=
  let c0_i32_386 : BitVec 32 := 0#32
  let v761 : Index := Scalar.indexCast c0_i32_386
  let c0_i32_354 : BitVec 32 := 0#32
  let c0_i32_350 : BitVec 32 := 0#32
  let c1_i32_351 : BitVec 32 := 1#32
  let arg11 : BitVec 32 := Scf.iv c0_i32_350 c1_i32_351 k0_t4
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v762 : Index := Scalar.indexCast v676
  let c112 : Index := 112#32
  ![0, v762.toNat, 112]
@[reducible] def k0_t5_loop : Scf.Loop 32 :=
  let c0_i32_348 : BitVec 32 := 0#32
  let c32_i32 : BitVec 32 := 32#32
  let v670 : BitVec 32 := Scalar.addi c0_i32_348 c32_i32
  let c1_i32_349 : BitVec 32 := 1#32
  ⟨c0_i32_348, v670, c1_i32_349⟩
def k0_off32 (k0_t5 : Fin k0_t5_loop.trips) (c0_i32_354 : BitVec 32) : Fin 3 → Nat :=
  let c0_i32_355 : BitVec 32 := 0#32
  let v676 : Index := Scalar.indexCast c0_i32_355
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v677 : Index := Scalar.indexCast v674
  let c0 : Index := 0#32
  ![0, v677.toNat, 0]
def k0_off33 (k0_t5 : Fin k0_t5_loop.trips) (c0_i32_354 : BitVec 32) (c0_i32_362 : BitVec 32) : Fin 3 → Nat :=
  let c0_i32_363 : BitVec 32 := 0#32
  let v700 : Index := Scalar.indexCast c0_i32_363
  let c0_i32_364 : BitVec 32 := 0#32
  let v701 : Index := Scalar.indexCast c0_i32_364
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let c128_i32 : BitVec 32 := 128#32
  let v698 : BitVec 32 := Scalar.muli v674 c128_i32
  let v699 : BitVec 32 := Scalar.addi v698 c0_i32_362
  let v702 : Index := Scalar.indexCast v699
  ![0, 0, v702.toNat]
def k0_off34 (k0_t5 : Fin k0_t5_loop.trips) (c0_i32_354 : BitVec 32) : Fin 3 → Nat :=
  let c0_i32_365 : BitVec 32 := 0#32
  let v704 : Index := Scalar.indexCast c0_i32_365
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v705 : Index := Scalar.indexCast v674
  let c16 : Index := 16#32
  ![0, v705.toNat, 16]
def k0_off35 (k0_t5 : Fin k0_t5_loop.trips) (c0_i32_354 : BitVec 32) : Fin 3 → Nat :=
  let c0_i32_375 : BitVec 32 := 0#32
  let v732 : Index := Scalar.indexCast c0_i32_375
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v733 : Index := Scalar.indexCast v674
  let c32 : Index := 32#32
  ![0, v733.toNat, 32]
def k0_off36 (k0_t5 : Fin k0_t5_loop.trips) (c0_i32_354 : BitVec 32) : Fin 3 → Nat :=
  let c0_i32_386 : BitVec 32 := 0#32
  let v760 : Index := Scalar.indexCast c0_i32_386
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v761 : Index := Scalar.indexCast v674
  let c48 : Index := 48#32
  ![0, v761.toNat, 48]
def k0_off37 (k0_t5 : Fin k0_t5_loop.trips) (c0_i32_354 : BitVec 32) : Fin 3 → Nat :=
  let c0_i32_396 : BitVec 32 := 0#32
  let v788 : Index := Scalar.indexCast c0_i32_396
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v789 : Index := Scalar.indexCast v674
  let c64 : Index := 64#32
  ![0, v789.toNat, 64]
def k0_off38 (k0_t5 : Fin k0_t5_loop.trips) (c0_i32_354 : BitVec 32) : Fin 3 → Nat :=
  let c0_i32_406 : BitVec 32 := 0#32
  let v816 : Index := Scalar.indexCast c0_i32_406
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v817 : Index := Scalar.indexCast v674
  let c80 : Index := 80#32
  ![0, v817.toNat, 80]
def k0_off39 (k0_t5 : Fin k0_t5_loop.trips) (c0_i32_354 : BitVec 32) : Fin 3 → Nat :=
  let c0_i32_416 : BitVec 32 := 0#32
  let v844 : Index := Scalar.indexCast c0_i32_416
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v845 : Index := Scalar.indexCast v674
  let c96 : Index := 96#32
  ![0, v845.toNat, 96]
def k0_off40 (k0_t5 : Fin k0_t5_loop.trips) (c0_i32_354 : BitVec 32) : Fin 3 → Nat :=
  let c0_i32_426 : BitVec 32 := 0#32
  let v872 : Index := Scalar.indexCast c0_i32_426
  let c0_i32_352 : BitVec 32 := 0#32
  let c0_i32_348 : BitVec 32 := 0#32
  let c1_i32_349 : BitVec 32 := 1#32
  let arg11 : BitVec 32 := Scf.iv c0_i32_348 c1_i32_349 k0_t5
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v873 : Index := Scalar.indexCast v674
  let c112 : Index := 112#32
  ![0, v873.toNat, 112]
@[reducible] def k0_t6_loop : Scf.Loop 32 :=
  let c0_i32_346 : BitVec 32 := 0#32
  let c32_i32 : BitVec 32 := 32#32
  let v668 : BitVec 32 := Scalar.addi c0_i32_346 c32_i32
  let c1_i32_347 : BitVec 32 := 1#32
  ⟨c0_i32_346, v668, c1_i32_347⟩
def k0_off41 (k0_t6 : Fin k0_t6_loop.trips) (c0_i32_352 : BitVec 32) : Fin 3 → Nat :=
  let c0_i32_353 : BitVec 32 := 0#32
  let v673 : Index := Scalar.indexCast c0_i32_353
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v674 : Index := Scalar.indexCast v672
  let c0 : Index := 0#32
  ![0, v674.toNat, 0]
def k0_off42 (k0_t6 : Fin k0_t6_loop.trips) (c0_i32_352 : BitVec 32) (c0_i32_360 : BitVec 32) : Fin 3 → Nat :=
  let c0_i32_361 : BitVec 32 := 0#32
  let v696 : Index := Scalar.indexCast c0_i32_361
  let c0_i32_362 : BitVec 32 := 0#32
  let v697 : Index := Scalar.indexCast c0_i32_362
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let c128_i32 : BitVec 32 := 128#32
  let v694 : BitVec 32 := Scalar.muli v672 c128_i32
  let v695 : BitVec 32 := Scalar.addi v694 c0_i32_360
  let v698 : Index := Scalar.indexCast v695
  ![0, 0, v698.toNat]
def k0_off43 (k0_t6 : Fin k0_t6_loop.trips) (c0_i32_352 : BitVec 32) : Fin 3 → Nat :=
  let c0_i32_363 : BitVec 32 := 0#32
  let v700 : Index := Scalar.indexCast c0_i32_363
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v701 : Index := Scalar.indexCast v672
  let c16 : Index := 16#32
  ![0, v701.toNat, 16]
def k0_off44 (k0_t6 : Fin k0_t6_loop.trips) (c0_i32_352 : BitVec 32) : Fin 3 → Nat :=
  let c0_i32_373 : BitVec 32 := 0#32
  let v727 : Index := Scalar.indexCast c0_i32_373
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v728 : Index := Scalar.indexCast v672
  let c32 : Index := 32#32
  ![0, v728.toNat, 32]
def k0_off45 (k0_t6 : Fin k0_t6_loop.trips) (c0_i32_352 : BitVec 32) : Fin 3 → Nat :=
  let c0_i32_384 : BitVec 32 := 0#32
  let v754 : Index := Scalar.indexCast c0_i32_384
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v755 : Index := Scalar.indexCast v672
  let c48 : Index := 48#32
  ![0, v755.toNat, 48]
def k0_off46 (k0_t6 : Fin k0_t6_loop.trips) (c0_i32_352 : BitVec 32) : Fin 3 → Nat :=
  let c0_i32_394 : BitVec 32 := 0#32
  let v781 : Index := Scalar.indexCast c0_i32_394
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v782 : Index := Scalar.indexCast v672
  let c64 : Index := 64#32
  ![0, v782.toNat, 64]
def k0_off47 (k0_t6 : Fin k0_t6_loop.trips) (c0_i32_352 : BitVec 32) : Fin 3 → Nat :=
  let c0_i32_404 : BitVec 32 := 0#32
  let v808 : Index := Scalar.indexCast c0_i32_404
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v809 : Index := Scalar.indexCast v672
  let c80 : Index := 80#32
  ![0, v809.toNat, 80]
def k0_off48 (k0_t6 : Fin k0_t6_loop.trips) (c0_i32_352 : BitVec 32) : Fin 3 → Nat :=
  let c0_i32_414 : BitVec 32 := 0#32
  let v835 : Index := Scalar.indexCast c0_i32_414
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v836 : Index := Scalar.indexCast v672
  let c96 : Index := 96#32
  ![0, v836.toNat, 96]
def k0_off49 (k0_t6 : Fin k0_t6_loop.trips) (c0_i32_352 : BitVec 32) : Fin 3 → Nat :=
  let c0_i32_424 : BitVec 32 := 0#32
  let v862 : Index := Scalar.indexCast c0_i32_424
  let c0_i32_350 : BitVec 32 := 0#32
  let c0_i32_346 : BitVec 32 := 0#32
  let c1_i32_347 : BitVec 32 := 1#32
  let arg11 : BitVec 32 := Scf.iv c0_i32_346 c1_i32_347 k0_t6
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v863 : Index := Scalar.indexCast v672
  let c112 : Index := 112#32
  ![0, v863.toNat, 112]
def k0_off50 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_209 : BitVec 32 := 30#32
  let v408 : BitVec 32 := Scalar.muli v1 c30_i32_209
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let v409 : BitVec 32 := Scalar.addi v408 v207
  let c0_i32_211 : BitVec 32 := 0#32
  let v411 : BitVec 1 := Scalar.cmpi .sgt v409 c0_i32_211
  let v412 : BitVec 32 := Scalar.extui v411
  let c0_i32_212 : BitVec 32 := 0#32
  let v413 : BitVec 1 := Scalar.cmpi .slt v409 c0_i32_212
  let v414 : BitVec 32 := Scalar.extui v413
  let v415 : BitVec 32 := Scalar.subi v412 v414
  let c192_i32_210 : BitVec 32 := 192#32
  let c0_i32_213 : BitVec 32 := 0#32
  let v416 : BitVec 1 := Scalar.cmpi .sgt c192_i32_210 c0_i32_213
  let v417 : BitVec 32 := Scalar.extui v416
  let c0_i32_214 : BitVec 32 := 0#32
  let v418 : BitVec 1 := Scalar.cmpi .slt c192_i32_210 c0_i32_214
  let v419 : BitVec 32 := Scalar.extui v418
  let v420 : BitVec 32 := Scalar.subi v417 v419
  let v421 : BitVec 1 := Scalar.cmpi .ne v415 v420
  let v422 : BitVec 32 := Scalar.remsi v409 c192_i32_210
  let c0_i32_215 : BitVec 32 := 0#32
  let v423 : BitVec 1 := Scalar.cmpi .ne v422 c0_i32_215
  let v424 : BitVec 1 := Scalar.andi v421 v423
  let v410 : BitVec 32 := Scalar.divsi v409 c192_i32_210
  let c1_i32_216 : BitVec 32 := 1#32
  let v425 : BitVec 32 := Scalar.subi v410 c1_i32_216
  let v426 : BitVec 32 := Scalar.select v424 v425 v410
  let c192_i32_217 : BitVec 32 := 192#32
  let c0_i32_218 : BitVec 32 := 0#32
  let v427 : BitVec 1 := Scalar.cmpi .eq c192_i32_217 c0_i32_218
  let c1_i32_219 : BitVec 32 := 1#32
  let v428 : BitVec 32 := Scalar.select v427 c1_i32_219 c192_i32_217
  let v429 : BitVec 32 := Scalar.remsi v409 v428
  let c0_i32_221 : BitVec 32 := 0#32
  let v431 : BitVec 1 := Scalar.cmpi .slt v429 c0_i32_221
  let c0_i32_222 : BitVec 32 := 0#32
  let v432 : BitVec 1 := Scalar.cmpi .slt v428 c0_i32_222
  let v433 : BitVec 1 := Scalar.xori v431 v432
  let c0_i32_220 : BitVec 32 := 0#32
  let v430 : BitVec 1 := Scalar.cmpi .ne v429 c0_i32_220
  let v434 : BitVec 1 := Scalar.andi v433 v430
  let v435 : BitVec 32 := Scalar.addi v429 v428
  let v436 : BitVec 32 := Scalar.select v434 v435 v429
  let c0_i32_224 : BitVec 32 := 0#32
  let v438 : BitVec 1 := Scalar.cmpi .sgt v436 c0_i32_224
  let v439 : BitVec 32 := Scalar.extui v438
  let c0_i32_225 : BitVec 32 := 0#32
  let v440 : BitVec 1 := Scalar.cmpi .slt v436 c0_i32_225
  let v441 : BitVec 32 := Scalar.extui v440
  let v442 : BitVec 32 := Scalar.subi v439 v441
  let c3_i32_223 : BitVec 32 := 3#32
  let c0_i32_226 : BitVec 32 := 0#32
  let v443 : BitVec 1 := Scalar.cmpi .sgt c3_i32_223 c0_i32_226
  let v444 : BitVec 32 := Scalar.extui v443
  let c0_i32_227 : BitVec 32 := 0#32
  let v445 : BitVec 1 := Scalar.cmpi .slt c3_i32_223 c0_i32_227
  let v446 : BitVec 32 := Scalar.extui v445
  let v447 : BitVec 32 := Scalar.subi v444 v446
  let v448 : BitVec 1 := Scalar.cmpi .ne v442 v447
  let v449 : BitVec 32 := Scalar.remsi v436 c3_i32_223
  let c0_i32_228 : BitVec 32 := 0#32
  let v450 : BitVec 1 := Scalar.cmpi .ne v449 c0_i32_228
  let v451 : BitVec 1 := Scalar.andi v448 v450
  let v437 : BitVec 32 := Scalar.divsi v436 c3_i32_223
  let c1_i32_229 : BitVec 32 := 1#32
  let v452 : BitVec 32 := Scalar.subi v437 c1_i32_229
  let v453 : BitVec 32 := Scalar.select v451 v452 v437
  let c3_i32_230 : BitVec 32 := 3#32
  let c0_i32_231 : BitVec 32 := 0#32
  let v454 : BitVec 1 := Scalar.cmpi .eq c3_i32_230 c0_i32_231
  let c1_i32_232 : BitVec 32 := 1#32
  let v455 : BitVec 32 := Scalar.select v454 c1_i32_232 c3_i32_230
  let v456 : BitVec 32 := Scalar.remsi v436 v455
  let c0_i32_234 : BitVec 32 := 0#32
  let v458 : BitVec 1 := Scalar.cmpi .slt v456 c0_i32_234
  let c0_i32_235 : BitVec 32 := 0#32
  let v459 : BitVec 1 := Scalar.cmpi .slt v455 c0_i32_235
  let v460 : BitVec 1 := Scalar.xori v458 v459
  let c0_i32_233 : BitVec 32 := 0#32
  let v457 : BitVec 1 := Scalar.cmpi .ne v456 c0_i32_233
  let v461 : BitVec 1 := Scalar.andi v460 v457
  let v462 : BitVec 32 := Scalar.addi v456 v455
  let v463 : BitVec 32 := Scalar.select v461 v462 v456
  let c16384_i32_236 : BitVec 32 := 16384#32
  let v464 : BitVec 32 := Scalar.muli v463 c16384_i32_236
  ![v426.toNat, v453.toNat, v464.toNat]
def k0_cond6 (k0_t1 : Fin k0_t1_loop.trips) : BitVec 1 :=
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let c2_i32_238 : BitVec 32 := 2#32
  let v469 : BitVec 32 := Scalar.addi v207 c2_i32_238
  let c30_i32_239 : BitVec 32 := 30#32
  let v470 : BitVec 1 := Scalar.cmpi .slt v469 c30_i32_239
  let v471 : BitVec 32 := Scalar.extui v470
  let c0_i32_240 : BitVec 32 := 0#32
  let v472 : BitVec 1 := Scalar.cmpi .ne v471 c0_i32_240
  v472

def k0_off51 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_347 : BitVec 32 := 30#32
  let v669 : BitVec 32 := Scalar.muli v1 c30_i32_347
  let c0_i32_36 : BitVec 32 := 0#32
  let c1_i32_38 : BitVec 32 := 1#32
  let arg10 : BitVec 32 := Scf.iv c0_i32_36 c1_i32_38 k0_t1
  let c2_i32_97 : BitVec 32 := 2#32
  let v207 : BitVec 32 := Scalar.muli arg10 c2_i32_97
  let c2_i32_346 : BitVec 32 := 2#32
  let v668 : BitVec 32 := Scalar.addi v207 c2_i32_346
  let v670 : BitVec 32 := Scalar.addi v669 v668
  let c192_i32_355 : BitVec 32 := 192#32
  let c0_i32_356 : BitVec 32 := 0#32
  let v688 : BitVec 1 := Scalar.cmpi .eq c192_i32_355 c0_i32_356
  let c1_i32_357 : BitVec 32 := 1#32
  let v689 : BitVec 32 := Scalar.select v688 c1_i32_357 c192_i32_355
  let v690 : BitVec 32 := Scalar.remsi v670 v689
  let c0_i32_359 : BitVec 32 := 0#32
  let v692 : BitVec 1 := Scalar.cmpi .slt v690 c0_i32_359
  let c0_i32_360 : BitVec 32 := 0#32
  let v693 : BitVec 1 := Scalar.cmpi .slt v689 c0_i32_360
  let v694 : BitVec 1 := Scalar.xori v692 v693
  let c0_i32_358 : BitVec 32 := 0#32
  let v691 : BitVec 1 := Scalar.cmpi .ne v690 c0_i32_358
  let v695 : BitVec 1 := Scalar.andi v694 v691
  let v696 : BitVec 32 := Scalar.addi v690 v689
  let v697 : BitVec 32 := Scalar.select v695 v696 v690
  let c0_i32_362 : BitVec 32 := 0#32
  let v699 : BitVec 1 := Scalar.cmpi .sgt v697 c0_i32_362
  let v700 : BitVec 32 := Scalar.extui v699
  let c0_i32_363 : BitVec 32 := 0#32
  let v701 : BitVec 1 := Scalar.cmpi .slt v697 c0_i32_363
  let v702 : BitVec 32 := Scalar.extui v701
  let v703 : BitVec 32 := Scalar.subi v700 v702
  let c3_i32_361 : BitVec 32 := 3#32
  let c0_i32_364 : BitVec 32 := 0#32
  let v704 : BitVec 1 := Scalar.cmpi .sgt c3_i32_361 c0_i32_364
  let v705 : BitVec 32 := Scalar.extui v704
  let c0_i32_365 : BitVec 32 := 0#32
  let v706 : BitVec 1 := Scalar.cmpi .slt c3_i32_361 c0_i32_365
  let v707 : BitVec 32 := Scalar.extui v706
  let v708 : BitVec 32 := Scalar.subi v705 v707
  let v709 : BitVec 1 := Scalar.cmpi .ne v703 v708
  let v710 : BitVec 32 := Scalar.remsi v697 c3_i32_361
  let c0_i32_366 : BitVec 32 := 0#32
  let v711 : BitVec 1 := Scalar.cmpi .ne v710 c0_i32_366
  let v712 : BitVec 1 := Scalar.andi v709 v711
  let v698 : BitVec 32 := Scalar.divsi v697 c3_i32_361
  let c1_i32_367 : BitVec 32 := 1#32
  let v713 : BitVec 32 := Scalar.subi v698 c1_i32_367
  let v714 : BitVec 32 := Scalar.select v712 v713 v698
  let c15_i32_374 : BitVec 32 := 15#32
  let v725 : BitVec 32 := Scalar.muli v714 c15_i32_374
  let c3_i32_368 : BitVec 32 := 3#32
  let c0_i32_369 : BitVec 32 := 0#32
  let v715 : BitVec 1 := Scalar.cmpi .eq c3_i32_368 c0_i32_369
  let c1_i32_370 : BitVec 32 := 1#32
  let v716 : BitVec 32 := Scalar.select v715 c1_i32_370 c3_i32_368
  let v717 : BitVec 32 := Scalar.remsi v697 v716
  let c0_i32_372 : BitVec 32 := 0#32
  let v719 : BitVec 1 := Scalar.cmpi .slt v717 c0_i32_372
  let c0_i32_373 : BitVec 32 := 0#32
  let v720 : BitVec 1 := Scalar.cmpi .slt v716 c0_i32_373
  let v721 : BitVec 1 := Scalar.xori v719 v720
  let c0_i32_371 : BitVec 32 := 0#32
  let v718 : BitVec 1 := Scalar.cmpi .ne v717 c0_i32_371
  let v722 : BitVec 1 := Scalar.andi v721 v718
  let v723 : BitVec 32 := Scalar.addi v717 v716
  let v724 : BitVec 32 := Scalar.select v722 v723 v717
  let c5_i32_375 : BitVec 32 := 5#32
  let v726 : BitVec 32 := Scalar.muli v724 c5_i32_375
  let v727 : BitVec 32 := Scalar.addi v725 v726
  let c0_i32_349 : BitVec 32 := 0#32
  let v672 : BitVec 1 := Scalar.cmpi .sgt v670 c0_i32_349
  let v673 : BitVec 32 := Scalar.extui v672
  let c0_i32_350 : BitVec 32 := 0#32
  let v674 : BitVec 1 := Scalar.cmpi .slt v670 c0_i32_350
  let v675 : BitVec 32 := Scalar.extui v674
  let v676 : BitVec 32 := Scalar.subi v673 v675
  let c192_i32_348 : BitVec 32 := 192#32
  let c0_i32_351 : BitVec 32 := 0#32
  let v677 : BitVec 1 := Scalar.cmpi .sgt c192_i32_348 c0_i32_351
  let v678 : BitVec 32 := Scalar.extui v677
  let c0_i32_352 : BitVec 32 := 0#32
  let v679 : BitVec 1 := Scalar.cmpi .slt c192_i32_348 c0_i32_352
  let v680 : BitVec 32 := Scalar.extui v679
  let v681 : BitVec 32 := Scalar.subi v678 v680
  let v682 : BitVec 1 := Scalar.cmpi .ne v676 v681
  let v683 : BitVec 32 := Scalar.remsi v670 c192_i32_348
  let c0_i32_353 : BitVec 32 := 0#32
  let v684 : BitVec 1 := Scalar.cmpi .ne v683 c0_i32_353
  let v685 : BitVec 1 := Scalar.andi v682 v684
  let v671 : BitVec 32 := Scalar.divsi v670 c192_i32_348
  let c1_i32_354 : BitVec 32 := 1#32
  let v686 : BitVec 32 := Scalar.subi v671 c1_i32_354
  let v687 : BitVec 32 := Scalar.select v685 v686 v671
  let v728 : BitVec 32 := Scalar.addi v727 v687
  let c0_i32_377 : BitVec 32 := 0#32
  let c0_i32_378 : BitVec 32 := 0#32
  ![v728.toNat, 0, 0]
def k0_cond7 (k0_t1 : Fin k0_t1_loop.trips) : BitVec 1 :=
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let c2_i32_275 : BitVec 32 := 2#32
  let v537 : BitVec 1 := Scalar.cmpi .sge v209 c2_i32_275
  let v538 : BitVec 32 := Scalar.extui v537
  let c0_i32_276 : BitVec 32 := 0#32
  let v539 : BitVec 1 := Scalar.cmpi .ne v538 c0_i32_276
  v539

def k0_off52 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_347 : BitVec 32 := 30#32
  let v669 : BitVec 32 := Scalar.muli v1 c30_i32_347
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let c2_i32_346 : BitVec 32 := 2#32
  let v668 : BitVec 32 := Scalar.subi v209 c2_i32_346
  let v670 : BitVec 32 := Scalar.addi v669 v668
  let c0_i32_349 : BitVec 32 := 0#32
  let v672 : BitVec 1 := Scalar.cmpi .sgt v670 c0_i32_349
  let v673 : BitVec 32 := Scalar.extui v672
  let c0_i32_350 : BitVec 32 := 0#32
  let v674 : BitVec 1 := Scalar.cmpi .slt v670 c0_i32_350
  let v675 : BitVec 32 := Scalar.extui v674
  let v676 : BitVec 32 := Scalar.subi v673 v675
  let c192_i32_348 : BitVec 32 := 192#32
  let c0_i32_351 : BitVec 32 := 0#32
  let v677 : BitVec 1 := Scalar.cmpi .sgt c192_i32_348 c0_i32_351
  let v678 : BitVec 32 := Scalar.extui v677
  let c0_i32_352 : BitVec 32 := 0#32
  let v679 : BitVec 1 := Scalar.cmpi .slt c192_i32_348 c0_i32_352
  let v680 : BitVec 32 := Scalar.extui v679
  let v681 : BitVec 32 := Scalar.subi v678 v680
  let v682 : BitVec 1 := Scalar.cmpi .ne v676 v681
  let v683 : BitVec 32 := Scalar.remsi v670 c192_i32_348
  let c0_i32_353 : BitVec 32 := 0#32
  let v684 : BitVec 1 := Scalar.cmpi .ne v683 c0_i32_353
  let v685 : BitVec 1 := Scalar.andi v682 v684
  let v671 : BitVec 32 := Scalar.divsi v670 c192_i32_348
  let c1_i32_354 : BitVec 32 := 1#32
  let v686 : BitVec 32 := Scalar.subi v671 c1_i32_354
  let v687 : BitVec 32 := Scalar.select v685 v686 v671
  let c192_i32_355 : BitVec 32 := 192#32
  let c0_i32_356 : BitVec 32 := 0#32
  let v688 : BitVec 1 := Scalar.cmpi .eq c192_i32_355 c0_i32_356
  let c1_i32_357 : BitVec 32 := 1#32
  let v689 : BitVec 32 := Scalar.select v688 c1_i32_357 c192_i32_355
  let v690 : BitVec 32 := Scalar.remsi v670 v689
  let c0_i32_359 : BitVec 32 := 0#32
  let v692 : BitVec 1 := Scalar.cmpi .slt v690 c0_i32_359
  let c0_i32_360 : BitVec 32 := 0#32
  let v693 : BitVec 1 := Scalar.cmpi .slt v689 c0_i32_360
  let v694 : BitVec 1 := Scalar.xori v692 v693
  let c0_i32_358 : BitVec 32 := 0#32
  let v691 : BitVec 1 := Scalar.cmpi .ne v690 c0_i32_358
  let v695 : BitVec 1 := Scalar.andi v694 v691
  let v696 : BitVec 32 := Scalar.addi v690 v689
  let v697 : BitVec 32 := Scalar.select v695 v696 v690
  let c0_i32_362 : BitVec 32 := 0#32
  let v699 : BitVec 1 := Scalar.cmpi .sgt v697 c0_i32_362
  let v700 : BitVec 32 := Scalar.extui v699
  let c0_i32_363 : BitVec 32 := 0#32
  let v701 : BitVec 1 := Scalar.cmpi .slt v697 c0_i32_363
  let v702 : BitVec 32 := Scalar.extui v701
  let v703 : BitVec 32 := Scalar.subi v700 v702
  let c3_i32_361 : BitVec 32 := 3#32
  let c0_i32_364 : BitVec 32 := 0#32
  let v704 : BitVec 1 := Scalar.cmpi .sgt c3_i32_361 c0_i32_364
  let v705 : BitVec 32 := Scalar.extui v704
  let c0_i32_365 : BitVec 32 := 0#32
  let v706 : BitVec 1 := Scalar.cmpi .slt c3_i32_361 c0_i32_365
  let v707 : BitVec 32 := Scalar.extui v706
  let v708 : BitVec 32 := Scalar.subi v705 v707
  let v709 : BitVec 1 := Scalar.cmpi .ne v703 v708
  let v710 : BitVec 32 := Scalar.remsi v697 c3_i32_361
  let c0_i32_366 : BitVec 32 := 0#32
  let v711 : BitVec 1 := Scalar.cmpi .ne v710 c0_i32_366
  let v712 : BitVec 1 := Scalar.andi v709 v711
  let v698 : BitVec 32 := Scalar.divsi v697 c3_i32_361
  let c1_i32_367 : BitVec 32 := 1#32
  let v713 : BitVec 32 := Scalar.subi v698 c1_i32_367
  let v714 : BitVec 32 := Scalar.select v712 v713 v698
  let c3_i32_368 : BitVec 32 := 3#32
  let c0_i32_369 : BitVec 32 := 0#32
  let v715 : BitVec 1 := Scalar.cmpi .eq c3_i32_368 c0_i32_369
  let c1_i32_370 : BitVec 32 := 1#32
  let v716 : BitVec 32 := Scalar.select v715 c1_i32_370 c3_i32_368
  let v717 : BitVec 32 := Scalar.remsi v697 v716
  let c0_i32_372 : BitVec 32 := 0#32
  let v719 : BitVec 1 := Scalar.cmpi .slt v717 c0_i32_372
  let c0_i32_373 : BitVec 32 := 0#32
  let v720 : BitVec 1 := Scalar.cmpi .slt v716 c0_i32_373
  let v721 : BitVec 1 := Scalar.xori v719 v720
  let c0_i32_371 : BitVec 32 := 0#32
  let v718 : BitVec 1 := Scalar.cmpi .ne v717 c0_i32_371
  let v722 : BitVec 1 := Scalar.andi v721 v718
  let v723 : BitVec 32 := Scalar.addi v717 v716
  let v724 : BitVec 32 := Scalar.select v722 v723 v717
  let c16384_i32_374 : BitVec 32 := 16384#32
  let v725 : BitVec 32 := Scalar.muli v724 c16384_i32_374
  ![v687.toNat, v714.toNat, v725.toNat]
def k0_cond8 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_277 : BitVec 32 := 30#32
  let v540 : BitVec 32 := Scalar.muli v1 c30_i32_277
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let v541 : BitVec 32 := Scalar.addi v540 v209
  let c0_i32_279 : BitVec 32 := 0#32
  let v543 : BitVec 1 := Scalar.cmpi .sgt v541 c0_i32_279
  let v544 : BitVec 32 := Scalar.extui v543
  let c0_i32_280 : BitVec 32 := 0#32
  let v545 : BitVec 1 := Scalar.cmpi .slt v541 c0_i32_280
  let v546 : BitVec 32 := Scalar.extui v545
  let v547 : BitVec 32 := Scalar.subi v544 v546
  let c192_i32_278 : BitVec 32 := 192#32
  let c0_i32_281 : BitVec 32 := 0#32
  let v548 : BitVec 1 := Scalar.cmpi .sgt c192_i32_278 c0_i32_281
  let v549 : BitVec 32 := Scalar.extui v548
  let c0_i32_282 : BitVec 32 := 0#32
  let v550 : BitVec 1 := Scalar.cmpi .slt c192_i32_278 c0_i32_282
  let v551 : BitVec 32 := Scalar.extui v550
  let v552 : BitVec 32 := Scalar.subi v549 v551
  let v553 : BitVec 1 := Scalar.cmpi .ne v547 v552
  let v554 : BitVec 32 := Scalar.remsi v541 c192_i32_278
  let c0_i32_283 : BitVec 32 := 0#32
  let v555 : BitVec 1 := Scalar.cmpi .ne v554 c0_i32_283
  let v556 : BitVec 1 := Scalar.andi v553 v555
  let v542 : BitVec 32 := Scalar.divsi v541 c192_i32_278
  let c1_i32_284 : BitVec 32 := 1#32
  let v557 : BitVec 32 := Scalar.subi v542 c1_i32_284
  let v558 : BitVec 32 := Scalar.select v556 v557 v542
  let c0_i32_314 : BitVec 32 := 0#32
  let v604 : BitVec 32 := Scalar.maxsi v558 c0_i32_314
  let c4_i32_315 : BitVec 32 := 4#32
  let v605 : BitVec 32 := Scalar.minsi v604 c4_i32_315
  let c0_i32_316 : BitVec 32 := 0#32
  let v606 : BitVec 1 := Scalar.cmpi .ne v605 c0_i32_316
  v606

def k0_cond9 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_277 : BitVec 32 := 30#32
  let v540 : BitVec 32 := Scalar.muli v1 c30_i32_277
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let v541 : BitVec 32 := Scalar.addi v540 v209
  let c0_i32_279 : BitVec 32 := 0#32
  let v543 : BitVec 1 := Scalar.cmpi .sgt v541 c0_i32_279
  let v544 : BitVec 32 := Scalar.extui v543
  let c0_i32_280 : BitVec 32 := 0#32
  let v545 : BitVec 1 := Scalar.cmpi .slt v541 c0_i32_280
  let v546 : BitVec 32 := Scalar.extui v545
  let v547 : BitVec 32 := Scalar.subi v544 v546
  let c192_i32_278 : BitVec 32 := 192#32
  let c0_i32_281 : BitVec 32 := 0#32
  let v548 : BitVec 1 := Scalar.cmpi .sgt c192_i32_278 c0_i32_281
  let v549 : BitVec 32 := Scalar.extui v548
  let c0_i32_282 : BitVec 32 := 0#32
  let v550 : BitVec 1 := Scalar.cmpi .slt c192_i32_278 c0_i32_282
  let v551 : BitVec 32 := Scalar.extui v550
  let v552 : BitVec 32 := Scalar.subi v549 v551
  let v553 : BitVec 1 := Scalar.cmpi .ne v547 v552
  let v554 : BitVec 32 := Scalar.remsi v541 c192_i32_278
  let c0_i32_283 : BitVec 32 := 0#32
  let v555 : BitVec 1 := Scalar.cmpi .ne v554 c0_i32_283
  let v556 : BitVec 1 := Scalar.andi v553 v555
  let v542 : BitVec 32 := Scalar.divsi v541 c192_i32_278
  let c1_i32_284 : BitVec 32 := 1#32
  let v557 : BitVec 32 := Scalar.subi v542 c1_i32_284
  let v558 : BitVec 32 := Scalar.select v556 v557 v542
  let c0_i32_314 : BitVec 32 := 0#32
  let v604 : BitVec 32 := Scalar.maxsi v558 c0_i32_314
  let c4_i32_315 : BitVec 32 := 4#32
  let v605 : BitVec 32 := Scalar.minsi v604 c4_i32_315
  let c1_i32_346 : BitVec 32 := 1#32
  let v668 : BitVec 32 := Scalar.subi v605 c1_i32_346
  let c0_i32_347 : BitVec 32 := 0#32
  let v669 : BitVec 1 := Scalar.cmpi .ne v668 c0_i32_347
  v669

def k0_cond10 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_277 : BitVec 32 := 30#32
  let v540 : BitVec 32 := Scalar.muli v1 c30_i32_277
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let v541 : BitVec 32 := Scalar.addi v540 v209
  let c0_i32_279 : BitVec 32 := 0#32
  let v543 : BitVec 1 := Scalar.cmpi .sgt v541 c0_i32_279
  let v544 : BitVec 32 := Scalar.extui v543
  let c0_i32_280 : BitVec 32 := 0#32
  let v545 : BitVec 1 := Scalar.cmpi .slt v541 c0_i32_280
  let v546 : BitVec 32 := Scalar.extui v545
  let v547 : BitVec 32 := Scalar.subi v544 v546
  let c192_i32_278 : BitVec 32 := 192#32
  let c0_i32_281 : BitVec 32 := 0#32
  let v548 : BitVec 1 := Scalar.cmpi .sgt c192_i32_278 c0_i32_281
  let v549 : BitVec 32 := Scalar.extui v548
  let c0_i32_282 : BitVec 32 := 0#32
  let v550 : BitVec 1 := Scalar.cmpi .slt c192_i32_278 c0_i32_282
  let v551 : BitVec 32 := Scalar.extui v550
  let v552 : BitVec 32 := Scalar.subi v549 v551
  let v553 : BitVec 1 := Scalar.cmpi .ne v547 v552
  let v554 : BitVec 32 := Scalar.remsi v541 c192_i32_278
  let c0_i32_283 : BitVec 32 := 0#32
  let v555 : BitVec 1 := Scalar.cmpi .ne v554 c0_i32_283
  let v556 : BitVec 1 := Scalar.andi v553 v555
  let v542 : BitVec 32 := Scalar.divsi v541 c192_i32_278
  let c1_i32_284 : BitVec 32 := 1#32
  let v557 : BitVec 32 := Scalar.subi v542 c1_i32_284
  let v558 : BitVec 32 := Scalar.select v556 v557 v542
  let c0_i32_314 : BitVec 32 := 0#32
  let v604 : BitVec 32 := Scalar.maxsi v558 c0_i32_314
  let c4_i32_315 : BitVec 32 := 4#32
  let v605 : BitVec 32 := Scalar.minsi v604 c4_i32_315
  let c1_i32_346 : BitVec 32 := 1#32
  let v668 : BitVec 32 := Scalar.subi v605 c1_i32_346
  let c1_i32_348 : BitVec 32 := 1#32
  let v670 : BitVec 32 := Scalar.subi v668 c1_i32_348
  let c0_i32_349 : BitVec 32 := 0#32
  let v671 : BitVec 1 := Scalar.cmpi .ne v670 c0_i32_349
  v671

def k0_cond11 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_277 : BitVec 32 := 30#32
  let v540 : BitVec 32 := Scalar.muli v1 c30_i32_277
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let v541 : BitVec 32 := Scalar.addi v540 v209
  let c0_i32_279 : BitVec 32 := 0#32
  let v543 : BitVec 1 := Scalar.cmpi .sgt v541 c0_i32_279
  let v544 : BitVec 32 := Scalar.extui v543
  let c0_i32_280 : BitVec 32 := 0#32
  let v545 : BitVec 1 := Scalar.cmpi .slt v541 c0_i32_280
  let v546 : BitVec 32 := Scalar.extui v545
  let v547 : BitVec 32 := Scalar.subi v544 v546
  let c192_i32_278 : BitVec 32 := 192#32
  let c0_i32_281 : BitVec 32 := 0#32
  let v548 : BitVec 1 := Scalar.cmpi .sgt c192_i32_278 c0_i32_281
  let v549 : BitVec 32 := Scalar.extui v548
  let c0_i32_282 : BitVec 32 := 0#32
  let v550 : BitVec 1 := Scalar.cmpi .slt c192_i32_278 c0_i32_282
  let v551 : BitVec 32 := Scalar.extui v550
  let v552 : BitVec 32 := Scalar.subi v549 v551
  let v553 : BitVec 1 := Scalar.cmpi .ne v547 v552
  let v554 : BitVec 32 := Scalar.remsi v541 c192_i32_278
  let c0_i32_283 : BitVec 32 := 0#32
  let v555 : BitVec 1 := Scalar.cmpi .ne v554 c0_i32_283
  let v556 : BitVec 1 := Scalar.andi v553 v555
  let v542 : BitVec 32 := Scalar.divsi v541 c192_i32_278
  let c1_i32_284 : BitVec 32 := 1#32
  let v557 : BitVec 32 := Scalar.subi v542 c1_i32_284
  let v558 : BitVec 32 := Scalar.select v556 v557 v542
  let c0_i32_314 : BitVec 32 := 0#32
  let v604 : BitVec 32 := Scalar.maxsi v558 c0_i32_314
  let c4_i32_315 : BitVec 32 := 4#32
  let v605 : BitVec 32 := Scalar.minsi v604 c4_i32_315
  let c1_i32_346 : BitVec 32 := 1#32
  let v668 : BitVec 32 := Scalar.subi v605 c1_i32_346
  let c1_i32_348 : BitVec 32 := 1#32
  let v670 : BitVec 32 := Scalar.subi v668 c1_i32_348
  let c1_i32_350 : BitVec 32 := 1#32
  let v672 : BitVec 32 := Scalar.subi v670 c1_i32_350
  let c0_i32_351 : BitVec 32 := 0#32
  let v673 : BitVec 1 := Scalar.cmpi .ne v672 c0_i32_351
  v673

@[reducible] def k0_t7_loop : Scf.Loop 32 :=
  let c0_i32_352 : BitVec 32 := 0#32
  let c32_i32 : BitVec 32 := 32#32
  let v674 : BitVec 32 := Scalar.addi c0_i32_352 c32_i32
  let c1_i32_353 : BitVec 32 := 1#32
  ⟨c0_i32_352, v674, c1_i32_353⟩
def k0_off53 (k0_t7 : Fin k0_t7_loop.trips) (c0_i32_358 : BitVec 32) : Fin 3 → Nat :=
  let c0_i32_359 : BitVec 32 := 0#32
  let v679 : Index := Scalar.indexCast c0_i32_359
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v680 : Index := Scalar.indexCast v678
  let c0 : Index := 0#32
  ![0, v680.toNat, 0]
def k0_off54 (k0_t7 : Fin k0_t7_loop.trips) (c0_i32_358 : BitVec 32) (c0_i32_365 : BitVec 32) : Fin 3 → Nat :=
  let c0_i32_366 : BitVec 32 := 0#32
  let v699 : Index := Scalar.indexCast c0_i32_366
  let c0_i32_367 : BitVec 32 := 0#32
  let v700 : Index := Scalar.indexCast c0_i32_367
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let c128_i32 : BitVec 32 := 128#32
  let v697 : BitVec 32 := Scalar.muli v678 c128_i32
  let v698 : BitVec 32 := Scalar.addi v697 c0_i32_365
  let v701 : Index := Scalar.indexCast v698
  ![0, 0, v701.toNat]
def k0_off55 (k0_t7 : Fin k0_t7_loop.trips) (c0_i32_358 : BitVec 32) : Fin 3 → Nat :=
  let c0_i32_368 : BitVec 32 := 0#32
  let v703 : Index := Scalar.indexCast c0_i32_368
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v704 : Index := Scalar.indexCast v678
  let c16 : Index := 16#32
  ![0, v704.toNat, 16]
def k0_off56 (k0_t7 : Fin k0_t7_loop.trips) (c0_i32_358 : BitVec 32) : Fin 3 → Nat :=
  let c0_i32_377 : BitVec 32 := 0#32
  let v727 : Index := Scalar.indexCast c0_i32_377
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v728 : Index := Scalar.indexCast v678
  let c32 : Index := 32#32
  ![0, v728.toNat, 32]
def k0_off57 (k0_t7 : Fin k0_t7_loop.trips) (c0_i32_358 : BitVec 32) : Fin 3 → Nat :=
  let c0_i32_387 : BitVec 32 := 0#32
  let v751 : Index := Scalar.indexCast c0_i32_387
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v752 : Index := Scalar.indexCast v678
  let c48 : Index := 48#32
  ![0, v752.toNat, 48]
def k0_off58 (k0_t7 : Fin k0_t7_loop.trips) (c0_i32_358 : BitVec 32) : Fin 3 → Nat :=
  let c0_i32_396 : BitVec 32 := 0#32
  let v775 : Index := Scalar.indexCast c0_i32_396
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v776 : Index := Scalar.indexCast v678
  let c64 : Index := 64#32
  ![0, v776.toNat, 64]
def k0_off59 (k0_t7 : Fin k0_t7_loop.trips) (c0_i32_358 : BitVec 32) : Fin 3 → Nat :=
  let c0_i32_405 : BitVec 32 := 0#32
  let v799 : Index := Scalar.indexCast c0_i32_405
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v800 : Index := Scalar.indexCast v678
  let c80 : Index := 80#32
  ![0, v800.toNat, 80]
def k0_off60 (k0_t7 : Fin k0_t7_loop.trips) (c0_i32_358 : BitVec 32) : Fin 3 → Nat :=
  let c0_i32_414 : BitVec 32 := 0#32
  let v823 : Index := Scalar.indexCast c0_i32_414
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v824 : Index := Scalar.indexCast v678
  let c96 : Index := 96#32
  ![0, v824.toNat, 96]
def k0_off61 (k0_t7 : Fin k0_t7_loop.trips) (c0_i32_358 : BitVec 32) : Fin 3 → Nat :=
  let c0_i32_423 : BitVec 32 := 0#32
  let v847 : Index := Scalar.indexCast c0_i32_423
  let c0_i32_356 : BitVec 32 := 0#32
  let c0_i32_352 : BitVec 32 := 0#32
  let c1_i32_353 : BitVec 32 := 1#32
  let arg11 : BitVec 32 := Scf.iv c0_i32_352 c1_i32_353 k0_t7
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v848 : Index := Scalar.indexCast v678
  let c112 : Index := 112#32
  ![0, v848.toNat, 112]
@[reducible] def k0_t8_loop : Scf.Loop 32 :=
  let c0_i32_352 : BitVec 32 := 0#32
  let c32_i32 : BitVec 32 := 32#32
  let v674 : BitVec 32 := Scalar.addi c0_i32_352 c32_i32
  let c1_i32_353 : BitVec 32 := 1#32
  ⟨c0_i32_352, v674, c1_i32_353⟩
def k0_off62 (k0_t8 : Fin k0_t8_loop.trips) (c0_i32_358 : BitVec 32) : Fin 3 → Nat :=
  let c0_i32_359 : BitVec 32 := 0#32
  let v679 : Index := Scalar.indexCast c0_i32_359
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v680 : Index := Scalar.indexCast v678
  let c0 : Index := 0#32
  ![0, v680.toNat, 0]
def k0_off63 (k0_t8 : Fin k0_t8_loop.trips) (c0_i32_358 : BitVec 32) (c0_i32_360 : BitVec 32) : Fin 3 → Nat :=
  let c0_i32_361 : BitVec 32 := 0#32
  let v687 : Index := Scalar.indexCast c0_i32_361
  let c0_i32_362 : BitVec 32 := 0#32
  let v688 : Index := Scalar.indexCast c0_i32_362
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let c128_i32 : BitVec 32 := 128#32
  let v685 : BitVec 32 := Scalar.muli v678 c128_i32
  let v686 : BitVec 32 := Scalar.addi v685 c0_i32_360
  let v689 : Index := Scalar.indexCast v686
  ![0, 0, v689.toNat]
def k0_off64 (k0_t8 : Fin k0_t8_loop.trips) (c0_i32_358 : BitVec 32) : Fin 3 → Nat :=
  let c0_i32_363 : BitVec 32 := 0#32
  let v691 : Index := Scalar.indexCast c0_i32_363
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v692 : Index := Scalar.indexCast v678
  let c16 : Index := 16#32
  ![0, v692.toNat, 16]
def k0_off65 (k0_t8 : Fin k0_t8_loop.trips) (c0_i32_358 : BitVec 32) : Fin 3 → Nat :=
  let c0_i32_367 : BitVec 32 := 0#32
  let v703 : Index := Scalar.indexCast c0_i32_367
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v704 : Index := Scalar.indexCast v678
  let c32 : Index := 32#32
  ![0, v704.toNat, 32]
def k0_off66 (k0_t8 : Fin k0_t8_loop.trips) (c0_i32_358 : BitVec 32) : Fin 3 → Nat :=
  let c0_i32_372 : BitVec 32 := 0#32
  let v715 : Index := Scalar.indexCast c0_i32_372
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v716 : Index := Scalar.indexCast v678
  let c48 : Index := 48#32
  ![0, v716.toNat, 48]
def k0_off67 (k0_t8 : Fin k0_t8_loop.trips) (c0_i32_358 : BitVec 32) : Fin 3 → Nat :=
  let c0_i32_376 : BitVec 32 := 0#32
  let v727 : Index := Scalar.indexCast c0_i32_376
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v728 : Index := Scalar.indexCast v678
  let c64 : Index := 64#32
  ![0, v728.toNat, 64]
def k0_off68 (k0_t8 : Fin k0_t8_loop.trips) (c0_i32_358 : BitVec 32) : Fin 3 → Nat :=
  let c0_i32_380 : BitVec 32 := 0#32
  let v739 : Index := Scalar.indexCast c0_i32_380
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v740 : Index := Scalar.indexCast v678
  let c80 : Index := 80#32
  ![0, v740.toNat, 80]
def k0_off69 (k0_t8 : Fin k0_t8_loop.trips) (c0_i32_358 : BitVec 32) : Fin 3 → Nat :=
  let c0_i32_384 : BitVec 32 := 0#32
  let v751 : Index := Scalar.indexCast c0_i32_384
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v752 : Index := Scalar.indexCast v678
  let c96 : Index := 96#32
  ![0, v752.toNat, 96]
def k0_off70 (k0_t8 : Fin k0_t8_loop.trips) (c0_i32_358 : BitVec 32) : Fin 3 → Nat :=
  let c0_i32_388 : BitVec 32 := 0#32
  let v763 : Index := Scalar.indexCast c0_i32_388
  let c0_i32_356 : BitVec 32 := 0#32
  let c0_i32_352 : BitVec 32 := 0#32
  let c1_i32_353 : BitVec 32 := 1#32
  let arg11 : BitVec 32 := Scf.iv c0_i32_352 c1_i32_353 k0_t8
  let c1_i32_355 : BitVec 32 := 1#32
  let v675 : BitVec 32 := Scalar.muli arg11 c1_i32_355
  let v676 : BitVec 32 := Scalar.addi c0_i32_356 v675
  let c4_i32_357 : BitVec 32 := 4#32
  let v677 : BitVec 32 := Scalar.muli v676 c4_i32_357
  let v678 : BitVec 32 := Scalar.addi v677 c0_i32_358
  let v764 : Index := Scalar.indexCast v678
  let c112 : Index := 112#32
  ![0, v764.toNat, 112]
@[reducible] def k0_t9_loop : Scf.Loop 32 :=
  let c0_i32_350 : BitVec 32 := 0#32
  let c32_i32 : BitVec 32 := 32#32
  let v672 : BitVec 32 := Scalar.addi c0_i32_350 c32_i32
  let c1_i32_351 : BitVec 32 := 1#32
  ⟨c0_i32_350, v672, c1_i32_351⟩
def k0_off71 (k0_t9 : Fin k0_t9_loop.trips) (c0_i32_356 : BitVec 32) : Fin 3 → Nat :=
  let c0_i32_357 : BitVec 32 := 0#32
  let v677 : Index := Scalar.indexCast c0_i32_357
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v678 : Index := Scalar.indexCast v676
  let c0 : Index := 0#32
  ![0, v678.toNat, 0]
def k0_off72 (k0_t9 : Fin k0_t9_loop.trips) (c0_i32_356 : BitVec 32) (c0_i32_358 : BitVec 32) : Fin 3 → Nat :=
  let c0_i32_359 : BitVec 32 := 0#32
  let v685 : Index := Scalar.indexCast c0_i32_359
  let c0_i32_360 : BitVec 32 := 0#32
  let v686 : Index := Scalar.indexCast c0_i32_360
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let c128_i32 : BitVec 32 := 128#32
  let v683 : BitVec 32 := Scalar.muli v676 c128_i32
  let v684 : BitVec 32 := Scalar.addi v683 c0_i32_358
  let v687 : Index := Scalar.indexCast v684
  ![0, 0, v687.toNat]
def k0_off73 (k0_t9 : Fin k0_t9_loop.trips) (c0_i32_356 : BitVec 32) : Fin 3 → Nat :=
  let c0_i32_361 : BitVec 32 := 0#32
  let v689 : Index := Scalar.indexCast c0_i32_361
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v690 : Index := Scalar.indexCast v676
  let c16 : Index := 16#32
  ![0, v690.toNat, 16]
def k0_off74 (k0_t9 : Fin k0_t9_loop.trips) (c0_i32_356 : BitVec 32) : Fin 3 → Nat :=
  let c0_i32_365 : BitVec 32 := 0#32
  let v701 : Index := Scalar.indexCast c0_i32_365
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v702 : Index := Scalar.indexCast v676
  let c32 : Index := 32#32
  ![0, v702.toNat, 32]
def k0_off75 (k0_t9 : Fin k0_t9_loop.trips) (c0_i32_356 : BitVec 32) : Fin 3 → Nat :=
  let c0_i32_370 : BitVec 32 := 0#32
  let v713 : Index := Scalar.indexCast c0_i32_370
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v714 : Index := Scalar.indexCast v676
  let c48 : Index := 48#32
  ![0, v714.toNat, 48]
def k0_off76 (k0_t9 : Fin k0_t9_loop.trips) (c0_i32_356 : BitVec 32) : Fin 3 → Nat :=
  let c0_i32_374 : BitVec 32 := 0#32
  let v725 : Index := Scalar.indexCast c0_i32_374
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v726 : Index := Scalar.indexCast v676
  let c64 : Index := 64#32
  ![0, v726.toNat, 64]
def k0_off77 (k0_t9 : Fin k0_t9_loop.trips) (c0_i32_356 : BitVec 32) : Fin 3 → Nat :=
  let c0_i32_378 : BitVec 32 := 0#32
  let v737 : Index := Scalar.indexCast c0_i32_378
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v738 : Index := Scalar.indexCast v676
  let c80 : Index := 80#32
  ![0, v738.toNat, 80]
def k0_off78 (k0_t9 : Fin k0_t9_loop.trips) (c0_i32_356 : BitVec 32) : Fin 3 → Nat :=
  let c0_i32_382 : BitVec 32 := 0#32
  let v749 : Index := Scalar.indexCast c0_i32_382
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v750 : Index := Scalar.indexCast v676
  let c96 : Index := 96#32
  ![0, v750.toNat, 96]
def k0_off79 (k0_t9 : Fin k0_t9_loop.trips) (c0_i32_356 : BitVec 32) : Fin 3 → Nat :=
  let c0_i32_386 : BitVec 32 := 0#32
  let v761 : Index := Scalar.indexCast c0_i32_386
  let c0_i32_354 : BitVec 32 := 0#32
  let c0_i32_350 : BitVec 32 := 0#32
  let c1_i32_351 : BitVec 32 := 1#32
  let arg11 : BitVec 32 := Scf.iv c0_i32_350 c1_i32_351 k0_t9
  let c1_i32_353 : BitVec 32 := 1#32
  let v673 : BitVec 32 := Scalar.muli arg11 c1_i32_353
  let v674 : BitVec 32 := Scalar.addi c0_i32_354 v673
  let c4_i32_355 : BitVec 32 := 4#32
  let v675 : BitVec 32 := Scalar.muli v674 c4_i32_355
  let v676 : BitVec 32 := Scalar.addi v675 c0_i32_356
  let v762 : Index := Scalar.indexCast v676
  let c112 : Index := 112#32
  ![0, v762.toNat, 112]
@[reducible] def k0_t10_loop : Scf.Loop 32 :=
  let c0_i32_348 : BitVec 32 := 0#32
  let c32_i32 : BitVec 32 := 32#32
  let v670 : BitVec 32 := Scalar.addi c0_i32_348 c32_i32
  let c1_i32_349 : BitVec 32 := 1#32
  ⟨c0_i32_348, v670, c1_i32_349⟩
def k0_off80 (k0_t10 : Fin k0_t10_loop.trips) (c0_i32_354 : BitVec 32) : Fin 3 → Nat :=
  let c0_i32_355 : BitVec 32 := 0#32
  let v676 : Index := Scalar.indexCast c0_i32_355
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v677 : Index := Scalar.indexCast v674
  let c0 : Index := 0#32
  ![0, v677.toNat, 0]
def k0_off81 (k0_t10 : Fin k0_t10_loop.trips) (c0_i32_354 : BitVec 32) (c0_i32_362 : BitVec 32) : Fin 3 → Nat :=
  let c0_i32_363 : BitVec 32 := 0#32
  let v700 : Index := Scalar.indexCast c0_i32_363
  let c0_i32_364 : BitVec 32 := 0#32
  let v701 : Index := Scalar.indexCast c0_i32_364
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let c128_i32 : BitVec 32 := 128#32
  let v698 : BitVec 32 := Scalar.muli v674 c128_i32
  let v699 : BitVec 32 := Scalar.addi v698 c0_i32_362
  let v702 : Index := Scalar.indexCast v699
  ![0, 0, v702.toNat]
def k0_off82 (k0_t10 : Fin k0_t10_loop.trips) (c0_i32_354 : BitVec 32) : Fin 3 → Nat :=
  let c0_i32_365 : BitVec 32 := 0#32
  let v704 : Index := Scalar.indexCast c0_i32_365
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v705 : Index := Scalar.indexCast v674
  let c16 : Index := 16#32
  ![0, v705.toNat, 16]
def k0_off83 (k0_t10 : Fin k0_t10_loop.trips) (c0_i32_354 : BitVec 32) : Fin 3 → Nat :=
  let c0_i32_375 : BitVec 32 := 0#32
  let v732 : Index := Scalar.indexCast c0_i32_375
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v733 : Index := Scalar.indexCast v674
  let c32 : Index := 32#32
  ![0, v733.toNat, 32]
def k0_off84 (k0_t10 : Fin k0_t10_loop.trips) (c0_i32_354 : BitVec 32) : Fin 3 → Nat :=
  let c0_i32_386 : BitVec 32 := 0#32
  let v760 : Index := Scalar.indexCast c0_i32_386
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v761 : Index := Scalar.indexCast v674
  let c48 : Index := 48#32
  ![0, v761.toNat, 48]
def k0_off85 (k0_t10 : Fin k0_t10_loop.trips) (c0_i32_354 : BitVec 32) : Fin 3 → Nat :=
  let c0_i32_396 : BitVec 32 := 0#32
  let v788 : Index := Scalar.indexCast c0_i32_396
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v789 : Index := Scalar.indexCast v674
  let c64 : Index := 64#32
  ![0, v789.toNat, 64]
def k0_off86 (k0_t10 : Fin k0_t10_loop.trips) (c0_i32_354 : BitVec 32) : Fin 3 → Nat :=
  let c0_i32_406 : BitVec 32 := 0#32
  let v816 : Index := Scalar.indexCast c0_i32_406
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v817 : Index := Scalar.indexCast v674
  let c80 : Index := 80#32
  ![0, v817.toNat, 80]
def k0_off87 (k0_t10 : Fin k0_t10_loop.trips) (c0_i32_354 : BitVec 32) : Fin 3 → Nat :=
  let c0_i32_416 : BitVec 32 := 0#32
  let v844 : Index := Scalar.indexCast c0_i32_416
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v845 : Index := Scalar.indexCast v674
  let c96 : Index := 96#32
  ![0, v845.toNat, 96]
def k0_off88 (k0_t10 : Fin k0_t10_loop.trips) (c0_i32_354 : BitVec 32) : Fin 3 → Nat :=
  let c0_i32_426 : BitVec 32 := 0#32
  let v872 : Index := Scalar.indexCast c0_i32_426
  let c0_i32_352 : BitVec 32 := 0#32
  let c0_i32_348 : BitVec 32 := 0#32
  let c1_i32_349 : BitVec 32 := 1#32
  let arg11 : BitVec 32 := Scf.iv c0_i32_348 c1_i32_349 k0_t10
  let c1_i32_351 : BitVec 32 := 1#32
  let v671 : BitVec 32 := Scalar.muli arg11 c1_i32_351
  let v672 : BitVec 32 := Scalar.addi c0_i32_352 v671
  let c4_i32_353 : BitVec 32 := 4#32
  let v673 : BitVec 32 := Scalar.muli v672 c4_i32_353
  let v674 : BitVec 32 := Scalar.addi v673 c0_i32_354
  let v873 : Index := Scalar.indexCast v674
  let c112 : Index := 112#32
  ![0, v873.toNat, 112]
@[reducible] def k0_t11_loop : Scf.Loop 32 :=
  let c0_i32_346 : BitVec 32 := 0#32
  let c32_i32 : BitVec 32 := 32#32
  let v668 : BitVec 32 := Scalar.addi c0_i32_346 c32_i32
  let c1_i32_347 : BitVec 32 := 1#32
  ⟨c0_i32_346, v668, c1_i32_347⟩
def k0_off89 (k0_t11 : Fin k0_t11_loop.trips) (c0_i32_352 : BitVec 32) : Fin 3 → Nat :=
  let c0_i32_353 : BitVec 32 := 0#32
  let v673 : Index := Scalar.indexCast c0_i32_353
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v674 : Index := Scalar.indexCast v672
  let c0 : Index := 0#32
  ![0, v674.toNat, 0]
def k0_off90 (k0_t11 : Fin k0_t11_loop.trips) (c0_i32_352 : BitVec 32) (c0_i32_360 : BitVec 32) : Fin 3 → Nat :=
  let c0_i32_361 : BitVec 32 := 0#32
  let v696 : Index := Scalar.indexCast c0_i32_361
  let c0_i32_362 : BitVec 32 := 0#32
  let v697 : Index := Scalar.indexCast c0_i32_362
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let c128_i32 : BitVec 32 := 128#32
  let v694 : BitVec 32 := Scalar.muli v672 c128_i32
  let v695 : BitVec 32 := Scalar.addi v694 c0_i32_360
  let v698 : Index := Scalar.indexCast v695
  ![0, 0, v698.toNat]
def k0_off91 (k0_t11 : Fin k0_t11_loop.trips) (c0_i32_352 : BitVec 32) : Fin 3 → Nat :=
  let c0_i32_363 : BitVec 32 := 0#32
  let v700 : Index := Scalar.indexCast c0_i32_363
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v701 : Index := Scalar.indexCast v672
  let c16 : Index := 16#32
  ![0, v701.toNat, 16]
def k0_off92 (k0_t11 : Fin k0_t11_loop.trips) (c0_i32_352 : BitVec 32) : Fin 3 → Nat :=
  let c0_i32_373 : BitVec 32 := 0#32
  let v727 : Index := Scalar.indexCast c0_i32_373
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v728 : Index := Scalar.indexCast v672
  let c32 : Index := 32#32
  ![0, v728.toNat, 32]
def k0_off93 (k0_t11 : Fin k0_t11_loop.trips) (c0_i32_352 : BitVec 32) : Fin 3 → Nat :=
  let c0_i32_384 : BitVec 32 := 0#32
  let v754 : Index := Scalar.indexCast c0_i32_384
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v755 : Index := Scalar.indexCast v672
  let c48 : Index := 48#32
  ![0, v755.toNat, 48]
def k0_off94 (k0_t11 : Fin k0_t11_loop.trips) (c0_i32_352 : BitVec 32) : Fin 3 → Nat :=
  let c0_i32_394 : BitVec 32 := 0#32
  let v781 : Index := Scalar.indexCast c0_i32_394
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v782 : Index := Scalar.indexCast v672
  let c64 : Index := 64#32
  ![0, v782.toNat, 64]
def k0_off95 (k0_t11 : Fin k0_t11_loop.trips) (c0_i32_352 : BitVec 32) : Fin 3 → Nat :=
  let c0_i32_404 : BitVec 32 := 0#32
  let v808 : Index := Scalar.indexCast c0_i32_404
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v809 : Index := Scalar.indexCast v672
  let c80 : Index := 80#32
  ![0, v809.toNat, 80]
def k0_off96 (k0_t11 : Fin k0_t11_loop.trips) (c0_i32_352 : BitVec 32) : Fin 3 → Nat :=
  let c0_i32_414 : BitVec 32 := 0#32
  let v835 : Index := Scalar.indexCast c0_i32_414
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v836 : Index := Scalar.indexCast v672
  let c96 : Index := 96#32
  ![0, v836.toNat, 96]
def k0_off97 (k0_t11 : Fin k0_t11_loop.trips) (c0_i32_352 : BitVec 32) : Fin 3 → Nat :=
  let c0_i32_424 : BitVec 32 := 0#32
  let v862 : Index := Scalar.indexCast c0_i32_424
  let c0_i32_350 : BitVec 32 := 0#32
  let c0_i32_346 : BitVec 32 := 0#32
  let c1_i32_347 : BitVec 32 := 1#32
  let arg11 : BitVec 32 := Scf.iv c0_i32_346 c1_i32_347 k0_t11
  let c1_i32_349 : BitVec 32 := 1#32
  let v669 : BitVec 32 := Scalar.muli arg11 c1_i32_349
  let v670 : BitVec 32 := Scalar.addi c0_i32_350 v669
  let c4_i32_351 : BitVec 32 := 4#32
  let v671 : BitVec 32 := Scalar.muli v670 c4_i32_351
  let v672 : BitVec 32 := Scalar.addi v671 c0_i32_352
  let v863 : Index := Scalar.indexCast v672
  let c112 : Index := 112#32
  ![0, v863.toNat, 112]
def k0_off98 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_317 : BitVec 32 := 30#32
  let v607 : BitVec 32 := Scalar.muli v1 c30_i32_317
  let c0_i32_36 : BitVec 32 := 0#32
  let c1_i32_38 : BitVec 32 := 1#32
  let arg10 : BitVec 32 := Scf.iv c0_i32_36 c1_i32_38 k0_t1
  let c2_i32_98 : BitVec 32 := 2#32
  let v208 : BitVec 32 := Scalar.muli arg10 c2_i32_98
  let c1_i32_99 : BitVec 32 := 1#32
  let v209 : BitVec 32 := Scalar.addi v208 c1_i32_99
  let v608 : BitVec 32 := Scalar.addi v607 v209
  let c0_i32_319 : BitVec 32 := 0#32
  let v610 : BitVec 1 := Scalar.cmpi .sgt v608 c0_i32_319
  let v611 : BitVec 32 := Scalar.extui v610
  let c0_i32_320 : BitVec 32 := 0#32
  let v612 : BitVec 1 := Scalar.cmpi .slt v608 c0_i32_320
  let v613 : BitVec 32 := Scalar.extui v612
  let v614 : BitVec 32 := Scalar.subi v611 v613
  let c192_i32_318 : BitVec 32 := 192#32
  let c0_i32_321 : BitVec 32 := 0#32
  let v615 : BitVec 1 := Scalar.cmpi .sgt c192_i32_318 c0_i32_321
  let v616 : BitVec 32 := Scalar.extui v615
  let c0_i32_322 : BitVec 32 := 0#32
  let v617 : BitVec 1 := Scalar.cmpi .slt c192_i32_318 c0_i32_322
  let v618 : BitVec 32 := Scalar.extui v617
  let v619 : BitVec 32 := Scalar.subi v616 v618
  let v620 : BitVec 1 := Scalar.cmpi .ne v614 v619
  let v621 : BitVec 32 := Scalar.remsi v608 c192_i32_318
  let c0_i32_323 : BitVec 32 := 0#32
  let v622 : BitVec 1 := Scalar.cmpi .ne v621 c0_i32_323
  let v623 : BitVec 1 := Scalar.andi v620 v622
  let v609 : BitVec 32 := Scalar.divsi v608 c192_i32_318
  let c1_i32_324 : BitVec 32 := 1#32
  let v624 : BitVec 32 := Scalar.subi v609 c1_i32_324
  let v625 : BitVec 32 := Scalar.select v623 v624 v609
  let c192_i32_325 : BitVec 32 := 192#32
  let c0_i32_326 : BitVec 32 := 0#32
  let v626 : BitVec 1 := Scalar.cmpi .eq c192_i32_325 c0_i32_326
  let c1_i32_327 : BitVec 32 := 1#32
  let v627 : BitVec 32 := Scalar.select v626 c1_i32_327 c192_i32_325
  let v628 : BitVec 32 := Scalar.remsi v608 v627
  let c0_i32_329 : BitVec 32 := 0#32
  let v630 : BitVec 1 := Scalar.cmpi .slt v628 c0_i32_329
  let c0_i32_330 : BitVec 32 := 0#32
  let v631 : BitVec 1 := Scalar.cmpi .slt v627 c0_i32_330
  let v632 : BitVec 1 := Scalar.xori v630 v631
  let c0_i32_328 : BitVec 32 := 0#32
  let v629 : BitVec 1 := Scalar.cmpi .ne v628 c0_i32_328
  let v633 : BitVec 1 := Scalar.andi v632 v629
  let v634 : BitVec 32 := Scalar.addi v628 v627
  let v635 : BitVec 32 := Scalar.select v633 v634 v628
  let c0_i32_332 : BitVec 32 := 0#32
  let v637 : BitVec 1 := Scalar.cmpi .sgt v635 c0_i32_332
  let v638 : BitVec 32 := Scalar.extui v637
  let c0_i32_333 : BitVec 32 := 0#32
  let v639 : BitVec 1 := Scalar.cmpi .slt v635 c0_i32_333
  let v640 : BitVec 32 := Scalar.extui v639
  let v641 : BitVec 32 := Scalar.subi v638 v640
  let c3_i32_331 : BitVec 32 := 3#32
  let c0_i32_334 : BitVec 32 := 0#32
  let v642 : BitVec 1 := Scalar.cmpi .sgt c3_i32_331 c0_i32_334
  let v643 : BitVec 32 := Scalar.extui v642
  let c0_i32_335 : BitVec 32 := 0#32
  let v644 : BitVec 1 := Scalar.cmpi .slt c3_i32_331 c0_i32_335
  let v645 : BitVec 32 := Scalar.extui v644
  let v646 : BitVec 32 := Scalar.subi v643 v645
  let v647 : BitVec 1 := Scalar.cmpi .ne v641 v646
  let v648 : BitVec 32 := Scalar.remsi v635 c3_i32_331
  let c0_i32_336 : BitVec 32 := 0#32
  let v649 : BitVec 1 := Scalar.cmpi .ne v648 c0_i32_336
  let v650 : BitVec 1 := Scalar.andi v647 v649
  let v636 : BitVec 32 := Scalar.divsi v635 c3_i32_331
  let c1_i32_337 : BitVec 32 := 1#32
  let v651 : BitVec 32 := Scalar.subi v636 c1_i32_337
  let v652 : BitVec 32 := Scalar.select v650 v651 v636
  let c3_i32_338 : BitVec 32 := 3#32
  let c0_i32_339 : BitVec 32 := 0#32
  let v653 : BitVec 1 := Scalar.cmpi .eq c3_i32_338 c0_i32_339
  let c1_i32_340 : BitVec 32 := 1#32
  let v654 : BitVec 32 := Scalar.select v653 c1_i32_340 c3_i32_338
  let v655 : BitVec 32 := Scalar.remsi v635 v654
  let c0_i32_342 : BitVec 32 := 0#32
  let v657 : BitVec 1 := Scalar.cmpi .slt v655 c0_i32_342
  let c0_i32_343 : BitVec 32 := 0#32
  let v658 : BitVec 1 := Scalar.cmpi .slt v654 c0_i32_343
  let v659 : BitVec 1 := Scalar.xori v657 v658
  let c0_i32_341 : BitVec 32 := 0#32
  let v656 : BitVec 1 := Scalar.cmpi .ne v655 c0_i32_341
  let v660 : BitVec 1 := Scalar.andi v659 v656
  let v661 : BitVec 32 := Scalar.addi v655 v654
  let v662 : BitVec 32 := Scalar.select v660 v661 v655
  let c16384_i32_344 : BitVec 32 := 16384#32
  let v663 : BitVec 32 := Scalar.muli v662 c16384_i32_344
  ![v625.toNat, v652.toNat, v663.toNat]
def k0_off99 (i : grid0.Coords) (c28_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_40 : BitVec 32 := 30#32
  let v85 : BitVec 32 := Scalar.muli v1 c30_i32_40
  let v86 : BitVec 32 := Scalar.addi v85 c28_i32
  let c0_i32_42 : BitVec 32 := 0#32
  let v88 : BitVec 1 := Scalar.cmpi .sgt v86 c0_i32_42
  let v89 : BitVec 32 := Scalar.extui v88
  let c0_i32_43 : BitVec 32 := 0#32
  let v90 : BitVec 1 := Scalar.cmpi .slt v86 c0_i32_43
  let v91 : BitVec 32 := Scalar.extui v90
  let v92 : BitVec 32 := Scalar.subi v89 v91
  let c192_i32_41 : BitVec 32 := 192#32
  let c0_i32_44 : BitVec 32 := 0#32
  let v93 : BitVec 1 := Scalar.cmpi .sgt c192_i32_41 c0_i32_44
  let v94 : BitVec 32 := Scalar.extui v93
  let c0_i32_45 : BitVec 32 := 0#32
  let v95 : BitVec 1 := Scalar.cmpi .slt c192_i32_41 c0_i32_45
  let v96 : BitVec 32 := Scalar.extui v95
  let v97 : BitVec 32 := Scalar.subi v94 v96
  let v98 : BitVec 1 := Scalar.cmpi .ne v92 v97
  let v99 : BitVec 32 := Scalar.remsi v86 c192_i32_41
  let c0_i32_46 : BitVec 32 := 0#32
  let v100 : BitVec 1 := Scalar.cmpi .ne v99 c0_i32_46
  let v101 : BitVec 1 := Scalar.andi v98 v100
  let v87 : BitVec 32 := Scalar.divsi v86 c192_i32_41
  let c1_i32_47 : BitVec 32 := 1#32
  let v102 : BitVec 32 := Scalar.subi v87 c1_i32_47
  let v103 : BitVec 32 := Scalar.select v101 v102 v87
  let c192_i32_48 : BitVec 32 := 192#32
  let c0_i32_49 : BitVec 32 := 0#32
  let v104 : BitVec 1 := Scalar.cmpi .eq c192_i32_48 c0_i32_49
  let c1_i32_50 : BitVec 32 := 1#32
  let v105 : BitVec 32 := Scalar.select v104 c1_i32_50 c192_i32_48
  let v106 : BitVec 32 := Scalar.remsi v86 v105
  let c0_i32_52 : BitVec 32 := 0#32
  let v108 : BitVec 1 := Scalar.cmpi .slt v106 c0_i32_52
  let c0_i32_53 : BitVec 32 := 0#32
  let v109 : BitVec 1 := Scalar.cmpi .slt v105 c0_i32_53
  let v110 : BitVec 1 := Scalar.xori v108 v109
  let c0_i32_51 : BitVec 32 := 0#32
  let v107 : BitVec 1 := Scalar.cmpi .ne v106 c0_i32_51
  let v111 : BitVec 1 := Scalar.andi v110 v107
  let v112 : BitVec 32 := Scalar.addi v106 v105
  let v113 : BitVec 32 := Scalar.select v111 v112 v106
  let c0_i32_55 : BitVec 32 := 0#32
  let v115 : BitVec 1 := Scalar.cmpi .sgt v113 c0_i32_55
  let v116 : BitVec 32 := Scalar.extui v115
  let c0_i32_56 : BitVec 32 := 0#32
  let v117 : BitVec 1 := Scalar.cmpi .slt v113 c0_i32_56
  let v118 : BitVec 32 := Scalar.extui v117
  let v119 : BitVec 32 := Scalar.subi v116 v118
  let c3_i32_54 : BitVec 32 := 3#32
  let c0_i32_57 : BitVec 32 := 0#32
  let v120 : BitVec 1 := Scalar.cmpi .sgt c3_i32_54 c0_i32_57
  let v121 : BitVec 32 := Scalar.extui v120
  let c0_i32_58 : BitVec 32 := 0#32
  let v122 : BitVec 1 := Scalar.cmpi .slt c3_i32_54 c0_i32_58
  let v123 : BitVec 32 := Scalar.extui v122
  let v124 : BitVec 32 := Scalar.subi v121 v123
  let v125 : BitVec 1 := Scalar.cmpi .ne v119 v124
  let v126 : BitVec 32 := Scalar.remsi v113 c3_i32_54
  let c0_i32_59 : BitVec 32 := 0#32
  let v127 : BitVec 1 := Scalar.cmpi .ne v126 c0_i32_59
  let v128 : BitVec 1 := Scalar.andi v125 v127
  let v114 : BitVec 32 := Scalar.divsi v113 c3_i32_54
  let c1_i32_60 : BitVec 32 := 1#32
  let v129 : BitVec 32 := Scalar.subi v114 c1_i32_60
  let v130 : BitVec 32 := Scalar.select v128 v129 v114
  let c3_i32_61 : BitVec 32 := 3#32
  let c0_i32_62 : BitVec 32 := 0#32
  let v131 : BitVec 1 := Scalar.cmpi .eq c3_i32_61 c0_i32_62
  let c1_i32_63 : BitVec 32 := 1#32
  let v132 : BitVec 32 := Scalar.select v131 c1_i32_63 c3_i32_61
  let v133 : BitVec 32 := Scalar.remsi v113 v132
  let c0_i32_65 : BitVec 32 := 0#32
  let v135 : BitVec 1 := Scalar.cmpi .slt v133 c0_i32_65
  let c0_i32_66 : BitVec 32 := 0#32
  let v136 : BitVec 1 := Scalar.cmpi .slt v132 c0_i32_66
  let v137 : BitVec 1 := Scalar.xori v135 v136
  let c0_i32_64 : BitVec 32 := 0#32
  let v134 : BitVec 1 := Scalar.cmpi .ne v133 c0_i32_64
  let v138 : BitVec 1 := Scalar.andi v137 v134
  let v139 : BitVec 32 := Scalar.addi v133 v132
  let v140 : BitVec 32 := Scalar.select v138 v139 v133
  let c16384_i32 : BitVec 32 := 16384#32
  let v141 : BitVec 32 := Scalar.muli v140 c16384_i32
  ![v103.toNat, v130.toNat, v141.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x15x128x128 : Shape := ⟨4, ![64, 15, 128, 128]⟩
abbrev S3x2 : Shape := ⟨2, ![3, 2]⟩
abbrev S2 : Shape := ⟨1, ![2]⟩
abbrev S4 : Shape := ⟨1, ![4]⟩
abbrev S1x2 : Shape := ⟨2, ![1, 2]⟩
abbrev S64x3x5x128x128 : Shape := ⟨5, ![64, 3, 5, 128, 128]⟩
abbrev S64x3x128x128x5 : Shape := ⟨5, ![64, 3, 128, 128, 5]⟩
abbrev S64x3x128x128x1 : Shape := ⟨5, ![64, 3, 128, 128, 1]⟩
abbrev S64x3x128x128 : Shape := ⟨4, ![64, 3, 128, 128]⟩
abbrev S_ : Shape := ⟨0, ![]⟩
abbrev S128 : Shape := ⟨1, ![128]⟩
abbrev S1x1x1x128 : Shape := ⟨4, ![1, 1, 1, 128]⟩
abbrev S1x1x128x1 : Shape := ⟨4, ![1, 1, 128, 1]⟩
abbrev S3x1 : Shape := ⟨2, ![3, 1]⟩
abbrev S3 : Shape := ⟨1, ![3]⟩
abbrev S1x3x1x1 : Shape := ⟨4, ![1, 3, 1, 1]⟩
abbrev S64x3x128x128x4 : Shape := ⟨5, ![64, 3, 128, 128, 4]⟩
abbrev S64x49152x4 : Shape := ⟨3, ![64, 49152, 4]⟩
abbrev S1x1x4 : Shape := ⟨3, ![1, 1, 4]⟩
abbrev S64x49152x1 : Shape := ⟨3, ![64, 49152, 1]⟩
abbrev S64x49152x5 : Shape := ⟨3, ![64, 49152, 5]⟩

abbrev nBuf : Space → Nat
  | .hbm => 74
  | .vmem => 0
  | .smem => 0
  | _ => 0

abbrev bufTy : (tb : Table) → Fin (tcTables nBuf tb) → BufTy
  | .hbm, ⟨0, _⟩ => ⟨S64x15x128x128, .f32⟩
  | .hbm, ⟨1, _⟩ => ⟨S3x2, .f32⟩
  | .hbm, ⟨2, _⟩ => ⟨S2, .f32⟩
  | .hbm, ⟨3, _⟩ => ⟨S4, .f32⟩
  | .hbm, ⟨4, _⟩ => ⟨S1x2, .f32⟩
  | .hbm, ⟨5, _⟩ => ⟨S3x2, .f32⟩
  | .hbm, ⟨6, _⟩ => ⟨S3x2, .f32⟩
  | .hbm, ⟨7, _⟩ => ⟨S64x3x5x128x128, .f32⟩
  | .hbm, ⟨8, _⟩ => ⟨S64x3x128x128x5, .f32⟩
  | .hbm, ⟨9, _⟩ => ⟨S64x3x128x128x1, .f32⟩
  | .hbm, ⟨10, _⟩ => ⟨S64x3x128x128, .f32⟩
  | .hbm, ⟨11, _⟩ => ⟨S64x3x128x128, .f32⟩
  | .hbm, ⟨12, _⟩ => ⟨S64x3x128x128, .f32⟩
  | .hbm, ⟨13, _⟩ => ⟨S_, .f32⟩
  | .hbm, ⟨14, _⟩ => ⟨S64x3x128x128, .f32⟩
  | .hbm, ⟨15, _⟩ => ⟨S64x3x128x128, .f32⟩
  | .hbm, ⟨16, _⟩ => ⟨S_, .f32⟩
  | .hbm, ⟨17, _⟩ => ⟨S64x3x128x128, .f32⟩
  | .hbm, ⟨18, _⟩ => ⟨S64x3x128x128, .f32⟩
  | .hbm, ⟨19, _⟩ => ⟨S64x3x128x128x1, .f32⟩
  | .hbm, ⟨20, _⟩ => ⟨S64x3x128x128, .f32⟩
  | .hbm, ⟨21, _⟩ => ⟨S64x3x128x128, .f32⟩
  | .hbm, ⟨22, _⟩ => ⟨S64x3x128x128, .f32⟩
  | .hbm, ⟨23, _⟩ => ⟨S_, .f32⟩
  | .hbm, ⟨24, _⟩ => ⟨S64x3x128x128, .f32⟩
  | .hbm, ⟨25, _⟩ => ⟨S64x3x128x128, .f32⟩
  | .hbm, ⟨26, _⟩ => ⟨S_, .f32⟩
  | .hbm, ⟨27, _⟩ => ⟨S64x3x128x128, .f32⟩
  | .hbm, ⟨28, _⟩ => ⟨S64x3x128x128, .f32⟩
  | .hbm, ⟨29, _⟩ => ⟨S64x3x128x128x1, .f32⟩
  | .hbm, ⟨30, _⟩ => ⟨S64x3x128x128, .f32⟩
  | .hbm, ⟨31, _⟩ => ⟨S64x3x128x128x1, .f32⟩
  | .hbm, ⟨32, _⟩ => ⟨S64x3x128x128, .f32⟩
  | .hbm, ⟨33, _⟩ => ⟨S64x3x128x128x1, .f32⟩
  | .hbm, ⟨34, _⟩ => ⟨S64x3x128x128, .f32⟩
  | .hbm, ⟨35, _⟩ => ⟨S64x3x128x128, .f32⟩
  | .hbm, ⟨36, _⟩ => ⟨S64x3x128x128, .f32⟩
  | .hbm, ⟨37, _⟩ => ⟨S_, .f32⟩
  | .hbm, ⟨38, _⟩ => ⟨S64x3x128x128, .f32⟩
  | .hbm, ⟨39, _⟩ => ⟨S64x3x128x128, .f32⟩
  | .hbm, ⟨40, _⟩ => ⟨S_, .f32⟩
  | .hbm, ⟨41, _⟩ => ⟨S64x3x128x128, .f32⟩
  | .hbm, ⟨42, _⟩ => ⟨S64x3x128x128, .f32⟩
  | .hbm, ⟨43, _⟩ => ⟨S128, .f32⟩
  | .hbm, ⟨44, _⟩ => ⟨S1x1x1x128, .f32⟩
  | .hbm, ⟨45, _⟩ => ⟨S128, .f32⟩
  | .hbm, ⟨46, _⟩ => ⟨S1x1x128x1, .f32⟩
  | .hbm, ⟨47, _⟩ => ⟨S3x1, .f32⟩
  | .hbm, ⟨48, _⟩ => ⟨S3, .f32⟩
  | .hbm, ⟨49, _⟩ => ⟨S1x3x1x1, .f32⟩
  | .hbm, ⟨50, _⟩ => ⟨S3x1, .f32⟩
  | .hbm, ⟨51, _⟩ => ⟨S3, .f32⟩
  | .hbm, ⟨52, _⟩ => ⟨S1x3x1x1, .f32⟩
  | .hbm, ⟨53, _⟩ => ⟨S64x3x128x128, .f32⟩
  | .hbm, ⟨54, _⟩ => ⟨S64x3x128x128, .f32⟩
  | .hbm, ⟨55, _⟩ => ⟨S64x3x128x128, .f32⟩
  | .hbm, ⟨56, _⟩ => ⟨S64x3x128x128, .f32⟩
  | .hbm, ⟨57, _⟩ => ⟨S64x3x128x128, .f32⟩
  | .hbm, ⟨58, _⟩ => ⟨S64x3x128x128, .f32⟩
  | .hbm, ⟨59, _⟩ => ⟨S64x3x128x128, .f32⟩
  | .hbm, ⟨60, _⟩ => ⟨S64x3x128x128, .f32⟩
  | .hbm, ⟨61, _⟩ => ⟨S64x3x128x128, .f32⟩
  | .hbm, ⟨62, _⟩ => ⟨S64x3x128x128, .f32⟩
  | .hbm, ⟨63, _⟩ => ⟨S64x3x128x128x1, .f32⟩
  | .hbm, ⟨64, _⟩ => ⟨S64x3x128x128x1, .f32⟩
  | .hbm, ⟨65, _⟩ => ⟨S64x3x128x128x1, .f32⟩
  | .hbm, ⟨66, _⟩ => ⟨S64x3x128x128x1, .f32⟩
  | .hbm, ⟨67, _⟩ => ⟨S64x3x128x128x4, .f32⟩
  | .hbm, ⟨68, _⟩ => ⟨S64x49152x4, .f32⟩
  | .hbm, ⟨69, _⟩ => ⟨S1x1x4, .f32⟩
  | .hbm, ⟨70, _⟩ => ⟨S64x49152x4, .f32⟩
  | .hbm, ⟨71, _⟩ => ⟨S64x49152x4, .f32⟩
  | .hbm, ⟨72, _⟩ => ⟨S64x49152x1, .f32⟩
  | .hbm, ⟨73, _⟩ => ⟨S64x49152x5, .f32⟩
  | _, _ => ⟨S64x15x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_cst_7 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Proof.KI.Chunk.lean ====
/-
  One trip of a row loop as a list of CHUNKS. Every branch of the kernel's plane computation walks its plane in
  trips of four rows, a row in eight chunks of sixteen lanes, and per chunk loads sixteen lanes of the input plane,
  reads the target lanes of the output plane (a read whose value nothing uses) and stores the sixteen computed
  lanes. `rowProg` is that trip over an arbitrary lane function; the ten row loops of the program are equal to it
  (`Rows.lean`).
-/
module

public import proofs.«01_k».proof.Defs
public import Idealize.ShloMosaic.Lib.SparseCore.Quiescent
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic Idealize.SL.Sem

variable {F : FTy → Type} [FloatOps F]

/-! ## What the five branches compute of sixteen lanes -/

/-- The sigmoid of sixteen lanes as the kernel computes it: the reciprocal of `1 + exp (0 - x)`, then two Newton steps. -/
def sigV (v : FVec F S16 .f32) : FVec F S16 .f32 :=
  let e := exp (subf (broadcast S16 (Scalar.ofBits .f32 0x00000000#32)) v)
  let d := addf (broadcast S16 (Scalar.ofBits .f32 0x3F800000#32)) e
  let y := divf (broadcast S16 (Scalar.ofBits .f32 0x3F800000#32)) d
  let y' := mulf y (subf (broadcast S16 (Scalar.ofBits .f32 0x40000000#32)) (mulf d y))
  mulf y' (subf (broadcast S16 (Scalar.ofBits .f32 0x40000000#32)) (mulf d y'))

/-- Channels 0 and 1: the sigmoid, the cell's offset `g` added, times eight. -/
def offV (g v : FVec F S16 .f32) : FVec F S16 .f32 :=
  mulf (addf (sigV v) g) (broadcast S16 (Scalar.ofBits .f32 0x41000000#32))

/-- Channels 2 and 3: the exponential times the anchor's side `w`. -/
def expV (w : F .f32) (v : FVec F S16 .f32) : FVec F S16 .f32 := mulf (exp v) (broadcast S16 w)

/-! ## A trip -/

/-- Where a trip's chunk (row `r` of the trip's four, chunk `j` of the row's eight) reads the input plane. -/
def inOff (t : Fin k0_t2_loop.trips) (r : Fin 4) : Fin 8 → Fin 3 → Nat
  | 0 => k0_off5 t (BitVec.ofNat 32 r.val)
  | 1 => k0_off7 t (BitVec.ofNat 32 r.val)
  | 2 => k0_off8 t (BitVec.ofNat 32 r.val)
  | 3 => k0_off9 t (BitVec.ofNat 32 r.val)
  | 4 => k0_off10 t (BitVec.ofNat 32 r.val)
  | 5 => k0_off11 t (BitVec.ofNat 32 r.val)
  | 6 => k0_off12 t (BitVec.ofNat 32 r.val)
  | 7 => k0_off13 t (BitVec.ofNat 32 r.val)

/-- Where it stores into the output plane. -/
def outOff (t : Fin k0_t2_loop.trips) (r : Fin 4) (j : Fin 8) : Fin 3 → Nat :=
  k0_off6 t (BitVec.ofNat 32 r.val) (BitVec.ofNat 32 (16 * j.val))

theorem inOff_eq (t : Fin k0_t2_loop.trips) (r : Fin 4) (j : Fin 8) :
    inOff t r j = ![0, 4 * t.val + r.val, 16 * j.val] := by
  fin_cases j
  · exact k0_off5_eq t r
  · exact k0_off7_eq t r
  · exact k0_off8_eq t r
  · exact k0_off9_eq t r
  · exact k0_off10_eq t r
  · exact k0_off11_eq t r
  · exact k0_off12_eq t r
  · exact k0_off13_eq t r

theorem outOff_eq (t : Fin k0_t2_loop.trips) (r : Fin 4) (j : Fin 8) :
    outOff t r j = ![0, 0, 512 * t.val + 128 * r.val + 16 * j.val] := k0_off6_eq t r j

theorem trips_32 : k0_t2_loop.trips = 32 := by decide

theorem inOff_inb (t : Fin k0_t2_loop.trips) (r : Fin 4) (j : Fin 8) (a : Fin 3) :
    inOff t r j a + S1x1x16.size a ≤ S1x128x128.size a := by
  have ht : t.val < 32 := lt_of_lt_of_eq t.isLt trips_32
  have hr := r.isLt
  have hj := j.isLt
  rw [inOff_eq]
  fin_cases a
  · show 0 + 1 ≤ 1
    omega
  · show 4 * t.val + r.val + 1 ≤ 128
    omega
  · show 16 * j.val + 16 ≤ 128
    omega

theorem outOff_inb (t : Fin k0_t2_loop.trips) (r : Fin 4) (j : Fin 8) (a : Fin 3) :
    outOff t r j a + S1x1x16.size a ≤ S1x1x16384.size a := by
  have ht : t.val < 32 := lt_of_lt_of_eq t.isLt trips_32
  have hr := r.isLt
  have hj := j.isLt
  rw [outOff_eq]
  fin_cases a
  · show 0 + 1 ≤ 1
    omega
  · show 0 + 1 ≤ 1
    omega
  · show 512 * t.val + 128 * r.val + 16 * j.val + 16 ≤ 16384
    omega

/-- A trip's thirty-two chunks, in the order in which the kernel takes them. -/
def cells : List (Fin 4 × Fin 8) :=
  [(0, 0), (0, 1), (0, 2), (0, 3), (0, 4), (0, 5), (0, 6), (0, 7),
   (1, 0), (1, 1), (1, 2), (1, 3), (1, 4), (1, 5), (1, 6), (1, 7),
   (2, 0), (2, 1), (2, 2), (2, 3), (2, 4), (2, 5), (2, 6), (2, 7),
   (3, 0), (3, 1), (3, 2), (3, 3), (3, 4), (3, 5), (3, 6), (3, 7)]

/-- The chunks `l` of trip `t`, from plane `bi` into plane `bo`, each computing its lane function `f r j`. -/
def rowProg (i : grid0.Coords) (bi : Memref sig .scVector .vmem S1x128x128 .f32) (bo : Memref sig .scVector .vmem S1x1x16384 .f32)
    (f : Fin 4 → Fin 8 → FVec F S16 .f32 → FVec F S16 .f32) (t : Fin k0_t2_loop.trips) :
    List (Fin 4 × Fin 8) → Prog (TpuEff nD τ sig (Elt F) Λ₀ (.scVector ((i 0).castLE hcore0) ((i 1).castLE hsub0))) Unit
  | [] => pure ⟨⟩
  | (r, j) :: l => do
    let v : Vec F S1x1x16 .f32 ← Prog.lift (.load bi (Rect.unit (s := S1x128x128) (inOff t r j) S1x1x16.size (inOff_inb t r j)).toLoadRect (View.loadsAt_vmem h_S1x1x16))
    let _ : Vec F S1x1x16 .f32 ← Prog.lift (.load bo (Rect.unit (s := S1x1x16384) (outOff t r j) S1x1x16.size (outOff_inb t r j)).toLoadRect (View.loadsAt_vmem h_S1x1x16))
    Prog.lift (.store bo (Rect.unit (s := S1x1x16384) (outOff t r j) S1x1x16.size (outOff_inb t r j)) (shapeCast S1x1x16 (f r j (shapeCast S16 v shapeCasts_S1x1x16_S16)) shapeCasts_S16_S1x1x16) Finset.univ (View.stores_vmem_bits_univ h_S1x1x16 rfl) (.inl rfl))
    rowProg i bi bo f t l

end Cert.Proof.KI

end
-- ==== Proof.KI.Rows.lean ====
/-
  The ten row loops of the kernel's body — five branches, one for each channel, for each of the two buffer pairs — are
  `rowProg` over the branch's lane function. `rowV` and `lanes` are the row's and the columns' numbers as the kernel
  computes them.
-/
module

public import proofs.«01_k».proof.Proof.KI.Chunk

@[expose] public section

noncomputable section

namespace Cert.Proof.KI

open Cert.KernelIdeal Cert.KernelIdeal.Gen
open Idealize.ShloMosaic Idealize.SL.Sem

variable {F : FTy → Type} [FloatOps F]

/-- The row's number as the kernel computes it: four rows a trip, from the loop's counter. -/
def rowBV (t : Fin k0_t2_loop.trips) (r : Fin 4) : BitVec 32 :=
  Scalar.addi (Scalar.muli (Scalar.addi 0#32 (Scalar.muli (Scf.iv 0#32 1#32 t) 1#32)) 4#32) (BitVec.ofNat 32 r.val)

/-- Channel 1's offset: the row's number, the same in every lane. -/
def rowV (t : Fin k0_t2_loop.trips) (r : Fin 4) : FVec F S16 .f32 := broadcast S16 (Scalar.sitofp .f32 (rowBV t r))

/-- Channel 0's offsets: the eight vectors of a row's lane numbers. -/
def lanes (v5 v7 v9 v11 v13 v15 v17 v19 : FVec F S16 .f32) : Fin 8 → FVec F S16 .f32
  | 0 => v5 | 1 => v7 | 2 => v9 | 3 => v11 | 4 => v13 | 5 => v15 | 6 => v17 | 7 => v19

variable (i : grid0.Coords) (arg2 : Memref sig .scVector .hbm S960x128x128 .f32) (harg2 : arg2.IsWhole) (arg3 : Memref sig .scVector .hbm S5x64x49152 .f32) (harg3 : arg3.IsWhole) (arg4 : Memref sig .scVector .vmem S1x128x128 .f32) (harg4 : arg4.IsWhole) (arg5 : Memref sig .scVector .vmem S1x128x128 .f32) (harg5 : arg5.IsWhole) (arg6 : Memref sig .scVector .vmem S1x1x16384 .f32) (harg6 : arg6.IsWhole) (arg7 : Memref sig .scVector .vmem S1x1x16384 .f32) (harg7 : arg7.IsWhole) (arg8 arg9 : DmaSems sig S2)
  (v1 : BitVec 32) (v5 v7 v9 v11 v13 v15 v17 v19 : FVec F S16 .f32) (k0_t1 : Fin k0_t1_loop.trips)

set_option maxRecDepth 65536 in
/-- The sigmoid branch, buffer pair 0. -/
theorem t2_body_eq (v207 v359 v396 : BitVec 32) (v397 v398 : BitVec 1) (c1 c2 : F .f32) (h2 : k0_cond2 i k0_t1 = 1#1) (h3 : k0_cond3 i k0_t1 = 1#1) (h4 : k0_cond4 i k0_t1 = 1#1) (h5 : k0_cond5 i k0_t1 = 1#1) (t : Fin k0_t2_loop.trips) (u : Unit) :
    k0_t2_body i arg2 harg2 arg3 harg3 arg4 harg4 arg5 harg5 arg6 harg6 arg7 harg7 arg8 arg9 v1 v5 v7 v9 v11 v13 v15 v17 v19 k0_t1 v207 v359 v396 v397 v398 c1 c2 h2 h3 h4 h5 t u
      = rowProg i arg4 arg6 (fun _ _ => sigV) t cells := rfl

set_option maxRecDepth 65536 in
/-- The branch of channel 3, buffer pair 0. -/
theorem t3_body_eq (v207 v359 v396 : BitVec 32) (v397 v398 : BitVec 1) (c1 c2 : F .f32) (h2 : k0_cond2 i k0_t1 = 1#1) (h3 : k0_cond3 i k0_t1 = 1#1) (h4 : k0_cond4 i k0_t1 = 1#1) (h5 : ¬k0_cond5 i k0_t1 = 1#1) (t : Fin k0_t3_loop.trips) (u : Unit) :
    k0_t3_body i arg2 harg2 arg3 harg3 arg4 harg4 arg5 harg5 arg6 harg6 arg7 harg7 arg8 arg9 v1 v5 v7 v9 v11 v13 v15 v17 v19 k0_t1 v207 v359 v396 v397 v398 c1 c2 h2 h3 h4 h5 t u
      = rowProg i arg4 arg6 (fun _ _ => expV (k0_pay480 v396)) t cells := rfl

set_option maxRecDepth 65536 in
/-- The branch of channel 2, buffer pair 0. -/
theorem t4_body_eq (v207 v359 v396 : BitVec 32) (v397 v398 : BitVec 1) (c1 c2 : F .f32) (h2 : k0_cond2 i k0_t1 = 1#1) (h3 : k0_cond3 i k0_t1 = 1#1) (h4 : ¬k0_cond4 i k0_t1 = 1#1) (t : Fin k0_t4_loop.trips) (u : Unit) :
    k0_t4_body i arg2 harg2 arg3 harg3 arg4 harg4 arg5 harg5 arg6 harg6 arg7 harg7 arg8 arg9 v1 v5 v7 v9 v11 v13 v15 v17 v19 k0_t1 v207 v359 v396 v397 v398 c1 c2 h2 h3 h4 t u
      = rowProg i arg4 arg6 (fun _ _ => expV (k0_pay479 v397 v398 c1 c2)) t cells := rfl

set_option maxRecDepth 65536 in
/-- The branch of channel 1, buffer pair 0. -/
theorem t5_body_eq (v207 v359 v396 : BitVec 32) (v397 v398 : BitVec 1) (c1 c2 : F .f32) (h2 : k0_cond2 i k0_t1 = 1#1) (h3 : ¬k0_cond3 i k0_t1 = 1#1) (t : Fin k0_t5_loop.trips) (u : Unit) :
    k0_t5_body i arg2 harg2 arg3 harg3 arg4 harg4 arg5 harg5 arg6 harg6 arg7 harg7 arg8 arg9 v1 v5 v7 v9 v11 v13 v15 v17 v19 k0_t1 v207 v359 v396 v397 v398 c1 c2 h2 h3 t u
      = rowProg i arg4 arg6 (fun r _ => offV (rowV t r)) t cells := rfl

set_option maxRecDepth 65536 in
/-- The branch of channel 0, buffer pair 0. -/
theorem t6_body_eq (v207 v359 v396 : BitVec 32) (v397 v398 : BitVec 1) (c1 c2 : F .f32) (h2 : ¬k0_cond2 i k0_t1 = 1#1) (t : Fin k0_t6_loop.trips) (u : Unit) :
    k0_t6_body i arg2 harg2 arg3 harg3 arg4 harg4 arg5 harg5 arg6 harg6 arg7 harg7 arg8 arg9 v1 v5 v7 v9 v11 v13 v15 v17 v19 k0_t1 v207 v359 v396 v397 v398 c1 c2 h2 t u
      = rowProg i arg4 arg6 (fun _ j => offV (lanes v5 v7 v9 v11 v13 v15 v17 v19 j)) t cells := rfl

set_option maxRecDepth 65536 in
/-- The sigmoid branch, buffer pair 1. -/
theorem t7_body_eq (v209 v558 v587 v588 : BitVec 32) (v589 v590 : BitVec 1) (h8 : k0_cond8 i k0_t1 = 1#1) (h9 : k0_cond9 i k0_t1 = 1#1) (h10 : k0_cond10 i k0_t1 = 1#1) (h11 : k0_cond11 i k0_t1 = 1#1) (t : Fin k0_t7_loop.trips) (u : Unit) :
    k0_t7_body i arg2 harg2 arg3 harg3 arg4 harg4 arg5 harg5 arg6 harg6 arg7 harg7 arg8 arg9 v1 v5 v7 v9 v11 v13 v15 v17 v19 k0_t1 v209 v558 v587 v588 v589 v590 h8 h9 h10 h11 t u
      = rowProg i arg5 arg7 (fun _ _ => sigV) t cells := rfl

set_option maxRecDepth 65536 in
/-- The branch of channel 3, buffer pair 1. -/
theorem t8_body_eq (v209 v558 v587 v588 : BitVec 32) (v589 v590 : BitVec 1) (h8 : k0_cond8 i k0_t1 = 1#1) (h9 : k0_cond9 i k0_t1 = 1#1) (h10 : k0_cond10 i k0_t1 = 1#1) (h11 : ¬k0_cond11 i k0_t1 = 1#1) (t : Fin k0_t8_loop.trips) (u : Unit) :
    k0_t8_body i arg2 harg2 arg3 harg3 arg4 harg4 arg5 harg5 arg6 harg6 arg7 harg7 arg8 arg9 v1 v5 v7 v9 v11 v13 v15 v17 v19 k0_t1 v209 v558 v587 v588 v589 v590 h8 h9 h10 h11 t u
      = rowProg i arg5 arg7 (fun _ _ => expV (k0_pay486 v587 v588 v589 v590)) t cells := rfl

set_option maxRecDepth 65536 in
/-- The branch of channel 2, buffer pair 1. -/
theorem t9_body_eq (v209 v558 v587 v588 : BitVec 32) (v589 v590 : BitVec 1) (h8 : k0_cond8 i k0_t1 = 1#1) (h9 : k0_cond9 i k0_t1 = 1#1) (h10 : ¬k0_cond10 i k0_t1 = 1#1) (t : Fin k0_t9_loop.trips) (u : Unit) :
    k0_t9_body i arg2 harg2 arg3 harg3 arg4 harg4 arg5 harg5 arg6 harg6 arg7 harg7 arg8 arg9 v1 v5 v7 v9 v11 v13 v15 v17 v19 k0_t1 v209 v558 v587 v588 v589 v590 h8 h9 h10 t u
      = rowProg i arg5 arg7 (fun _ _ => expV (k0_pay485 v587 v588 v589 v590)) t cells := rfl

set_option maxRecDepth 65536 in
/-- The branch of channel 1, buffer pair 1. -/
theorem t10_body_eq (v209 v558 v587 v588 : BitVec 32) (v589 v590 : BitVec 1) (h8 : k0_cond8 i k0_t1 = 1#1) (h9 : ¬k0_cond9 i k0_t1 = 1#1) (t : Fin k0_t10_loop.trips) (u : Unit) :
    k0_t10_body i arg2 harg2 arg3 harg3 arg4 harg4 arg5 harg5 arg6 harg6 arg7 harg7 arg8 arg9 v1 v5 v7 v9 v11 v13 v15 v17 v19 k0_t1 v209 v558 v587 v588 v589 v590 h8 h9 t u
      = rowProg i arg5 arg7 (fun r _ => offV (rowV t r)) t cells := rfl

set_option maxRecDepth 65536 in
/-- The branch of channel 0, buffer pair 1. -/
theorem t11_body_eq (v209 v558 v587 v588 : BitVec 32) (v589 v590 : BitVec 1) (h8 : ¬k0_cond8 i k0_t1 = 1#1) (t : Fin k0_t11_loop.trips) (u : Unit) :
    k0_t11_body i arg2 harg2 arg3 harg3 arg4 harg4 arg5 harg5 arg6 harg6 arg7 harg7 arg8 arg9 v1 v5 v7 v9 v11 v13 v15 v17 v19 k0_t1 v209 v558 v587 v588 v589 v590 h8 t u
      = rowProg i arg5 arg7 (fun _ j => offV (lanes v5 v7 v9 v11 v13 v15 v17 v19 j)) t cells := rfl

end Cert.Proof.KI

end
-- ==== Proof.KI.Pair.lean ====
/-
  The kernel body as a short program. `planeProg` computes one plane: the plane's channel chooses one of five row
  loops. `pairProg` is one trip of the pair loop — two planes, one per buffer pair, with their copies in and out —
  and `tileProg` a tile's whole run: the first copy in, fifteen pairs, the last two waits. The program's own body
  is `tileProg` (`body_eq`).
-/
module

public import proofs.«01_k».proof.Proof.KI.Rows

@[expose] public section

noncomputable section

namespace Cert.Proof.KI

open Cert.KernelIdeal Cert.KernelIdeal.Gen
open Idealize.ShloMosaic Idealize.SL.Sem

variable {F : FTy → Type} [FloatOps F]

/-- The remainder modulo `k`, taken with `k`'s sign, as the kernel computes it. -/
def modBV (k v : BitVec 32) : BitVec 32 :=
  let k' := Scalar.select (Scalar.cmpi .eq k 0#32) 1#32 k
  let r := Scalar.remsi v k'
  Scalar.select (Scalar.andi (Scalar.xori (Scalar.cmpi .slt r 0#32) (Scalar.cmpi .slt k' 0#32)) (Scalar.cmpi .ne r 0#32))
    (Scalar.addi r k') r

/-- The anchor's number of a worker's plane `n`: the plane's number modulo 192 (its place in its channel), modulo 3. -/
def anchorBV (v1 n : BitVec 32) : BitVec 32 := modBV 3#32 (modBV 192#32 (Scalar.addi (Scalar.muli v1 30#32) n))

/-- The anchor's width. -/
def wBV (a : BitVec 32) : F .f32 :=
  Scalar.select (Scalar.cmpi .eq a 0#32) (Scalar.ofBits .f32 0x42E80000#32)
    (Scalar.select (Scalar.cmpi .eq a 1#32) (Scalar.ofBits .f32 0x431C0000#32) (Scalar.ofBits .f32 0x43BA8000#32))

/-- The anchor's height. -/
def hBV (a : BitVec 32) : F .f32 :=
  Scalar.select (Scalar.cmpi .eq a 0#32) (Scalar.ofBits .f32 0x42B40000#32)
    (Scalar.select (Scalar.cmpi .eq a 1#32) (Scalar.ofBits .f32 0x43460000#32) (Scalar.ofBits .f32 0x43A30000#32))

/-- A tile's programs. -/
abbrev TileProg (F : FTy → Type) [FloatOps F] (i : grid0.Coords) (α : Type) :=
  Prog (TpuEff nD τ sig (Elt F) Λ₀ (.scVector ((i 0).castLE hcore0) ((i 1).castLE hsub0))) α

/-- A plane's row loop, with the lane function `f` of the trip. -/
def rowLoop (i : grid0.Coords) (bi : Memref sig .scVector .vmem S1x128x128 .f32) (bo : Memref sig .scVector .vmem S1x1x16384 .f32)
    (f : Fin k0_t2_loop.trips → Fin 4 → Fin 8 → FVec F S16 .f32 → FVec F S16 .f32) : TileProg F i Unit :=
  Scf.Loop.for k0_t2_loop (by decide) ⟨⟩ fun t _ => rowProg i bi bo (f t) t cells

/-- One plane: four nested tests of the channel's number choose the row loop. -/
def planeProg (i : grid0.Coords) (bi : Memref sig .scVector .vmem S1x128x128 .f32) (bo : Memref sig .scVector .vmem S1x1x16384 .f32)
    (q1 q2 q3 q4 : BitVec 1) (g : Fin 8 → FVec F S16 .f32) (w h : F .f32) : TileProg F i Unit :=
  if q1 = 1#1 then
    if q2 = 1#1 then
      if q3 = 1#1 then
        if q4 = 1#1 then rowLoop i bi bo fun _ _ _ => sigV
        else rowLoop i bi bo fun _ _ _ => expV h
      else rowLoop i bi bo fun _ _ _ => expV w
    else rowLoop i bi bo fun t r _ => offV (rowV t r)
  else rowLoop i bi bo fun _ _ j => offV (g j)

/-- The first of a pair of DMA semaphores. -/
abbrev sem0 (a : DmaSems sig S2) := ((a.slice (Rect.unit (s := S2) ![0] S1.size inb_S2_S1_0)).squeeze S_ squeezes_S1_S_).sem
/-- The second. -/
abbrev sem1 (a : DmaSems sig S2) := ((a.slice (Rect.unit (s := S2) ![1] S1.size inb_S2_S1_1)).squeeze S_ squeezes_S1_S_).sem

/-- A plane of the kernel's input. -/
abbrev inW (x : Memref sig .scVector .hbm S960x128x128 .f32) (off : Fin 3 → Nat) (h : ∀ a, off a + S1x128x128.size a ≤ S960x128x128.size a) :=
  x.slice (Rect.unit (s := S960x128x128) off S1x128x128.size h) (fun _ => rfl)
/-- A plane of the kernel's output. -/
abbrev outW (y : Memref sig .scVector .hbm S5x64x49152 .f32) (off : Fin 3 → Nat) (h : ∀ a, off a + S1x1x16384.size a ≤ S5x64x49152.size a) :=
  y.slice (Rect.unit (s := S5x64x49152) off S1x1x16384.size h) (fun _ => rfl)

section

variable (i : grid0.Coords) (arg2 : Memref sig .scVector .hbm S960x128x128 .f32) (harg2 : arg2.IsWhole) (arg3 : Memref sig .scVector .hbm S5x64x49152 .f32) (harg3 : arg3.IsWhole) (arg4 : Memref sig .scVector .vmem S1x128x128 .f32) (harg4 : arg4.IsWhole) (arg5 : Memref sig .scVector .vmem S1x128x128 .f32) (harg5 : arg5.IsWhole) (arg6 : Memref sig .scVector .vmem S1x1x16384 .f32) (harg6 : arg6.IsWhole) (arg7 : Memref sig .scVector .vmem S1x1x16384 .f32) (harg7 : arg7.IsWhole) (arg8 arg9 : DmaSems sig S2)
  (v1 : BitVec 32) (v5 v7 v9 v11 v13 v15 v17 v19 : FVec F S16 .f32)

/-- From the second trip on, wait for the first output buffer's last copy. -/
def waitOut0 (t : Fin k0_t1_loop.trips) : TileProg F i Unit :=
  if h : k0_cond1 t = 1#1 then
    Prog.lift (.waitDma2 (sem0 arg9) arg6 (outW arg3 (k0_off4 i t) (k0_off4_inb i t h)) harg6.wordExact (View.wordExact_bits rfl))
  else pure ⟨⟩

/-- From the second trip on, wait for the second output buffer's last copy. -/
def waitOut1 (t : Fin k0_t1_loop.trips) : TileProg F i Unit :=
  if h : k0_cond7 t = 1#1 then
    Prog.lift (.waitDma2 (sem1 arg9) arg7 (outW arg3 (k0_off52 i t) (k0_off52_inb i t h)) harg7.wordExact (View.wordExact_bits rfl))
  else pure ⟨⟩

/-- Before the last trip, start the next copy into the first input buffer. -/
def nextIn (t : Fin k0_t1_loop.trips) : TileProg F i Unit :=
  if h : k0_cond6 t = 1#1 then
    Prog.lift (.enqueueDma (inW arg2 (k0_off51 i t) (k0_off51_inb i t h)) (.here arg4) (.dma (sem0 arg8)) (View.wordExact_bits rfl) harg4.wordExact ⟨Or.inl rfl, trivial⟩)
  else pure ⟨⟩

/-- One trip of the pair loop, from the worker's number `v1` and the lane numbers `g`. -/
def pairProg (g : Fin 8 → FVec F S16 .f32) (t : Fin k0_t1_loop.trips) : TileProg F i Unit := do
  Prog.lift (.enqueueDma (inW arg2 (k0_off2 i t) (k0_off2_inb i t)) (.here arg5) (.dma (sem1 arg8)) (View.wordExact_bits rfl) harg5.wordExact ⟨Or.inl rfl, trivial⟩)
  Prog.lift (.waitDma2 (sem0 arg8) (inW arg2 (k0_off3 i t) (k0_off3_inb i t)) arg4 (View.wordExact_bits rfl) harg4.wordExact)
  waitOut0 i arg3 arg6 harg6 arg9 t
  planeProg i arg4 arg6 (k0_cond2 i t) (k0_cond3 i t) (k0_cond4 i t) (k0_cond5 i t) g
    (wBV (anchorBV v1 (Scalar.muli (Scf.iv 0#32 1#32 t) 2#32))) (hBV (anchorBV v1 (Scalar.muli (Scf.iv 0#32 1#32 t) 2#32)))
  Prog.lift (.enqueueDma arg6 (.here (outW arg3 (k0_off50 i t) (k0_off50_inb i t))) (.dma (sem0 arg9)) harg6.wordExact (View.wordExact_bits rfl) ⟨Or.inl rfl, trivial⟩)
  nextIn i arg2 arg4 harg4 arg8 t
  Prog.lift (.waitDma2 (sem1 arg8) (inW arg2 (k0_off2 i t) (k0_off2_inb i t)) arg5 (View.wordExact_bits rfl) harg5.wordExact)
  waitOut1 i arg3 arg7 harg7 arg9 t
  planeProg i arg5 arg7 (k0_cond8 i t) (k0_cond9 i t) (k0_cond10 i t) (k0_cond11 i t) g
    (wBV (anchorBV v1 (Scalar.addi (Scalar.muli (Scf.iv 0#32 1#32 t) 2#32) 1#32))) (hBV (anchorBV v1 (Scalar.addi (Scalar.muli (Scf.iv 0#32 1#32 t) 2#32) 1#32)))
  Prog.lift (.enqueueDma arg7 (.here (outW arg3 (k0_off98 i t) (k0_off98_inb i t))) (.dma (sem1 arg9)) harg7.wordExact (View.wordExact_bits rfl) ⟨Or.inl rfl, trivial⟩)

/-- A tile's whole run. -/
def tileProg (g : Fin 8 → FVec F S16 .f32) : TileProg F i Unit := do
  Prog.lift (.enqueueDma (inW arg2 (k0_off1 i) (k0_off1_inb i)) (.here arg4) (.dma (sem0 arg8)) (View.wordExact_bits rfl) harg4.wordExact ⟨Or.inl rfl, trivial⟩)
  Scf.Loop.for k0_t1_loop k0_t1_ok ⟨⟩ fun t _ => pairProg i arg2 arg3 arg4 harg4 arg5 harg5 arg6 harg6 arg7 harg7 arg8 arg9 v1 g t
  Prog.lift (.waitDma2 (sem0 arg9) arg6 (outW arg3 (k0_off99 i 28#32) (k0_off99_inb i 0)) harg6.wordExact (View.wordExact_bits rfl))
  Prog.lift (.waitDma2 (sem1 arg9) arg7 (outW arg3 (k0_off99 i 29#32) (k0_off99_inb i 1)) harg7.wordExact (View.wordExact_bits rfl))

/-! ## The program's parts -/

variable (t : Fin k0_t1_loop.trips)

set_option maxRecDepth 65536 in
/-- The first plane's computation. -/
theorem part185_eq (v207 v359 v396 : BitVec 32) (v397 v398 : BitVec 1) (c1 c2 : F .f32) :
    ∃ r, k0_part185 i arg2 harg2 arg3 harg3 arg4 harg4 arg5 harg5 arg6 harg6 arg7 harg7 arg8 arg9 v1 v5 v7 v9 v11 v13 v15 v17 v19 t v207 v359 v396 v397 v398 c1 c2
      = (planeProg i arg4 arg6 (k0_cond2 i t) (k0_cond3 i t) (k0_cond4 i t) (k0_cond5 i t) (lanes v5 v7 v9 v11 v13 v15 v17 v19)
          (k0_pay479 v397 v398 c1 c2) (k0_pay480 v396) >>= fun _ => pure r) := by
  apply Exists.intro
  rw [k0_part185_eq_skeleton]
  unfold k0_part185_skel planeProg
  by_cases h1 : k0_cond2 i t = 1#1
  · rw [dif_pos h1, if_pos h1]
    by_cases h2 : k0_cond3 i t = 1#1
    · rw [dif_pos h2, if_pos h2]
      by_cases h3 : k0_cond4 i t = 1#1
      · rw [dif_pos h3, if_pos h3]
        by_cases h4 : k0_cond5 i t = 1#1
        · rw [dif_pos h4, if_pos h4]
          simp only [bind_assoc, pure_bind]
          rfl
        · rw [dif_neg h4, if_neg h4]
          simp only [bind_assoc, pure_bind]
          rfl
      · rw [dif_neg h3, if_neg h3]
        simp only [bind_assoc, pure_bind]
        rfl
    · rw [dif_neg h2, if_neg h2]
      simp only [bind_assoc, pure_bind]
      rfl
  · rw [dif_neg h1, if_neg h1]
    simp only [bind_assoc, pure_bind]
    rfl

set_option maxRecDepth 65536 in
/-- The second plane's computation. -/
theorem part190_eq (v209 v558 v587 v588 : BitVec 32) (v589 v590 : BitVec 1) :
    ∃ r, k0_part190 i arg2 harg2 arg3 harg3 arg4 harg4 arg5 harg5 arg6 harg6 arg7 harg7 arg8 arg9 v1 v5 v7 v9 v11 v13 v15 v17 v19 t v209 v558 v587 v588 v589 v590
      = (planeProg i arg5 arg7 (k0_cond8 i t) (k0_cond9 i t) (k0_cond10 i t) (k0_cond11 i t) (lanes v5 v7 v9 v11 v13 v15 v17 v19)
          (k0_pay485 v587 v588 v589 v590) (k0_pay486 v587 v588 v589 v590) >>= fun _ => pure r) := by
  apply Exists.intro
  rw [k0_part190_eq_skeleton]
  unfold k0_part190_skel planeProg
  by_cases h1 : k0_cond8 i t = 1#1
  · rw [dif_pos h1, if_pos h1]
    by_cases h2 : k0_cond9 i t = 1#1
    · rw [dif_pos h2, if_pos h2]
      by_cases h3 : k0_cond10 i t = 1#1
      · rw [dif_pos h3, if_pos h3]
        by_cases h4 : k0_cond11 i t = 1#1
        · rw [dif_pos h4, if_pos h4]
          simp only [bind_assoc, pure_bind]
          rfl
        · rw [dif_neg h4, if_neg h4]
          simp only [bind_assoc, pure_bind]
          rfl
      · rw [dif_neg h3, if_neg h3]
        simp only [bind_assoc, pure_bind]
        rfl
    · rw [dif_neg h2, if_neg h2]
      simp only [bind_assoc, pure_bind]
      rfl
  · rw [dif_neg h1, if_neg h1]
    simp only [bind_assoc, pure_bind]
    rfl

theorem part180_eq : ∃ a b c d e f, k0_part180 i arg2 harg2 arg3 harg3 arg4 harg4 arg5 harg5 arg6 harg6 arg7 harg7 arg8 arg9 v1 0#32 1#32 t
    = (pure ⟨Scalar.muli (Scf.iv 0#32 1#32 t) 2#32, Scalar.addi (Scalar.muli (Scf.iv 0#32 1#32 t) 2#32) 1#32, a, b, c, d, e, f⟩ : TileProg F i _) :=
  ⟨_, _, _, _, _, _, rfl⟩

theorem part181_eq (a b c d e f g : BitVec 32) : ∃ r, k0_part181 i arg2 harg2 arg3 harg3 arg4 harg4 arg5 harg5 arg6 harg6 arg7 harg7 arg8 arg9 v1 t a b c d e f g
    = (Prog.lift (.enqueueDma (inW arg2 (k0_off2 i t) (k0_off2_inb i t)) (.here arg5) (.dma (sem1 arg8)) (View.wordExact_bits rfl) harg5.wordExact ⟨Or.inl rfl, trivial⟩)
        >>= fun _ => pure r : TileProg F i _) :=
  ⟨_, rfl⟩

theorem part182_eq (a b c d : BitVec 32) (e : BitVec 1) : ∃ r, k0_part182 i arg2 harg2 arg3 harg3 arg4 harg4 arg5 harg5 arg6 harg6 arg7 harg7 arg8 arg9 a b c d e = (pure r : TileProg F i _) :=
  ⟨_, rfl⟩

theorem part183_eq (n a b c d e : BitVec 32) : ∃ r, k0_part183 i arg2 harg2 arg3 harg3 arg4 harg4 arg5 harg5 arg6 harg6 arg7 harg7 arg8 arg9 v1 t n a b c d e
    = (Prog.lift (.waitDma2 (sem0 arg8) (inW arg2 (k0_off3 i t) (k0_off3_inb i t)) arg4 (View.wordExact_bits rfl) harg4.wordExact)
        >>= fun _ => (if h : k0_cond1 t = 1#1 then
            Prog.lift (.waitDma2 (sem0 arg9) arg6 (outW arg3 (k0_off4 i t) (k0_off4_inb i t h)) harg6.wordExact (View.wordExact_bits rfl))
          else pure ⟨⟩) >>= fun _ => pure ⟨Scalar.addi (Scalar.muli v1 30#32) n, r, 192#32, 0#32⟩ : TileProg F i _) := by
  apply Exists.intro
  rw [k0_part183_eq_skeleton]
  unfold k0_part183_skel
  by_cases h : k0_cond1 t = 1#1
  · rw [dif_pos h]
    simp only [dif_pos h]
    rfl
  · rw [dif_neg h]
    simp only [dif_neg h]
    rfl

theorem part184_eq (n : BitVec 32) : k0_part184 i arg2 harg2 arg3 harg3 arg4 harg4 arg5 harg5 arg6 harg6 arg7 harg7 arg8 arg9 (Scalar.addi (Scalar.muli v1 30#32) n) 192#32 0#32
    = (pure ⟨anchorBV v1 n, Scalar.cmpi .eq (anchorBV v1 n) 0#32, Scalar.cmpi .eq (anchorBV v1 n) 1#32,
        Scalar.ofBits .f32 0x431C0000#32, Scalar.ofBits .f32 0x43BA8000#32⟩ : TileProg F i _) := rfl

theorem part186_eq (n a b : BitVec 32) (c : BitVec 1) : ∃ r, k0_part186 i arg2 harg2 arg3 harg3 arg4 harg4 arg5 harg5 arg6 harg6 arg7 harg7 arg8 arg9 v1 t n a b c
    = (Prog.lift (.enqueueDma arg6 (.here (outW arg3 (k0_off50 i t) (k0_off50_inb i t))) (.dma (sem0 arg9)) harg6.wordExact (View.wordExact_bits rfl) ⟨Or.inl rfl, trivial⟩)
        >>= fun _ => (if h : k0_cond6 t = 1#1 then
            Prog.lift (.enqueueDma (inW arg2 (k0_off51 i t) (k0_off51_inb i t h)) (.here arg4) (.dma (sem0 arg8)) (View.wordExact_bits rfl) harg4.wordExact ⟨Or.inl rfl, trivial⟩)
          else pure ⟨⟩) >>= fun _ => pure r : TileProg F i _) := by
  apply Exists.intro
  rw [k0_part186_eq_skeleton]
  unfold k0_part186_skel
  by_cases h : k0_cond6 t = 1#1
  · rw [dif_pos h]
    simp only [dif_pos h]
    rfl
  · rw [dif_neg h]
    simp only [dif_neg h]
    rfl

theorem part187_eq (n a : BitVec 32) : ∃ r, k0_part187 i arg2 harg2 arg3 harg3 arg4 harg4 arg5 harg5 arg6 harg6 arg7 harg7 arg8 arg9 n a = (pure r : TileProg F i _) :=
  ⟨_, rfl⟩

theorem part188_eq (n a b c : BitVec 32) (d : BitVec 1) (e f : BitVec 32) : ∃ r₁ r₂ r₃ r₄, k0_part188 i arg2 harg2 arg3 harg3 arg4 harg4 arg5 harg5 arg6 harg6 arg7 harg7 arg8 arg9 v1 t n a b c d e f
    = (Prog.lift (.waitDma2 (sem1 arg8) (inW arg2 (k0_off2 i t) (k0_off2_inb i t)) arg5 (View.wordExact_bits rfl) harg5.wordExact)
        >>= fun _ => (if h : k0_cond7 t = 1#1 then
            Prog.lift (.waitDma2 (sem1 arg9) arg7 (outW arg3 (k0_off52 i t) (k0_off52_inb i t h)) harg7.wordExact (View.wordExact_bits rfl))
          else pure ⟨⟩) >>= fun _ => pure ⟨Scalar.addi (Scalar.muli v1 30#32) n, 192#32, r₁, r₂, r₃, r₄⟩ : TileProg F i _) := by
  apply Exists.intro
  apply Exists.intro
  apply Exists.intro
  apply Exists.intro
  rw [k0_part188_eq_skeleton]
  unfold k0_part188_skel
  by_cases h : k0_cond7 t = 1#1
  · rw [dif_pos h]
    simp only [dif_pos h]
    rfl
  · rw [dif_neg h]
    simp only [dif_neg h]
    rfl

theorem part189_eq (n a b c : BitVec 32) (d : BitVec 1) : ∃ r r₁ r₂ r₃ r₄,
    k0_part189 i arg2 harg2 arg3 harg3 arg4 harg4 arg5 harg5 arg6 harg6 arg7 harg7 arg8 arg9 (Scalar.addi (Scalar.muli v1 30#32) n) 192#32 a b c d = (pure ⟨r, r₁, r₂, r₃, r₄⟩ : TileProg F i _)
      ∧ k0_pay485 (F := F) r₁ r₂ r₃ r₄ = wBV (anchorBV v1 n) ∧ k0_pay486 (F := F) r₁ r₂ r₃ r₄ = hBV (anchorBV v1 n) :=
  ⟨_, _, _, _, _, rfl, rfl, rfl⟩

theorem part191_eq (a b c : BitVec 32) : k0_part191 i arg2 harg2 arg3 harg3 arg4 harg4 arg5 harg5 arg6 harg6 arg7 harg7 arg8 arg9 t a b c = (pure ⟨⟩ : TileProg F i _) := rfl

/-- A trip of the program's pair loop is `pairProg`. -/
theorem pair_eq (v38 v78 : BitVec 32) (u : Unit) :
    k0_t1_body i arg2 harg2 arg3 harg3 arg4 harg4 arg5 harg5 arg6 harg6 arg7 harg7 arg8 arg9 v1 v5 v7 v9 v11 v13 v15 v17 v19 v38 v78 t u = pairProg i arg2 arg3 arg4 harg4 arg5 harg5 arg6 harg6 arg7 harg7 arg8 arg9 v1 (lanes v5 v7 v9 v11 v13 v15 v17 v19) t := by
  obtain ⟨a1, a2, a3, a4, a5, a6, e180⟩ := part180_eq (F := F) i arg2 harg2 arg3 harg3 arg4 harg4 arg5 harg5 arg6 harg6 arg7 harg7 arg8 arg9 v1 t
  obtain ⟨⟨b1, b2, b3, b4, b5⟩, e181⟩ := part181_eq (F := F) i arg2 harg2 arg3 harg3 arg4 harg4 arg5 harg5 arg6 harg6 arg7 harg7 arg8 arg9 v1 t (Scalar.muli (Scf.iv 0#32 1#32 t) 2#32) a1 a2 a3 a4 a5 a6
  obtain ⟨⟨c1, c2, c3, c4, c5⟩, e182⟩ := part182_eq (F := F) i arg2 harg2 arg3 harg3 arg4 harg4 arg5 harg5 arg6 harg6 arg7 harg7 arg8 arg9 b1 b2 b3 b4 b5
  obtain ⟨d1, e183⟩ := part183_eq (F := F) i arg2 harg2 arg3 harg3 arg4 harg4 arg5 harg5 arg6 harg6 arg7 harg7 arg8 arg9 v1 t (Scalar.muli (Scf.iv 0#32 1#32 t) 2#32) c1 c2 c3 c4 c5
  obtain ⟨⟨f1, f2, f3⟩, e185⟩ := part185_eq (F := F) i arg2 harg2 arg3 harg3 arg4 harg4 arg5 harg5 arg6 harg6 arg7 harg7 arg8 arg9 v1 v5 v7 v9 v11 v13 v15 v17 v19 t (Scalar.muli (Scf.iv 0#32 1#32 t) 2#32) d1
    (anchorBV v1 (Scalar.muli (Scf.iv 0#32 1#32 t) 2#32)) (Scalar.cmpi .eq (anchorBV v1 (Scalar.muli (Scf.iv 0#32 1#32 t) 2#32)) 0#32)
    (Scalar.cmpi .eq (anchorBV v1 (Scalar.muli (Scf.iv 0#32 1#32 t) 2#32)) 1#32) (Scalar.ofBits .f32 0x431C0000#32) (Scalar.ofBits .f32 0x43BA8000#32)
  obtain ⟨g1, e186⟩ := part186_eq (F := F) i arg2 harg2 arg3 harg3 arg4 harg4 arg5 harg5 arg6 harg6 arg7 harg7 arg8 arg9 v1 t (Scalar.muli (Scf.iv 0#32 1#32 t) 2#32) f1 f2 f3
  obtain ⟨⟨h1, h2, h3, h4, h5, h6⟩, e187⟩ := part187_eq (F := F) i arg2 harg2 arg3 harg3 arg4 harg4 arg5 harg5 arg6 harg6 arg7 harg7 arg8 arg9 (Scalar.addi (Scalar.muli (Scf.iv 0#32 1#32 t) 2#32) 1#32) g1
  obtain ⟨i1, i2, i3, i4, e188⟩ := part188_eq (F := F) i arg2 harg2 arg3 harg3 arg4 harg4 arg5 harg5 arg6 harg6 arg7 harg7 arg8 arg9 v1 t (Scalar.addi (Scalar.muli (Scf.iv 0#32 1#32 t) 2#32) 1#32) h1 h2 h3 h4 h5 h6
  obtain ⟨j, j1, j2, j3, j4, e189, ew, eh⟩ := part189_eq (F := F) i arg2 harg2 arg3 harg3 arg4 harg4 arg5 harg5 arg6 harg6 arg7 harg7 arg8 arg9 v1 (Scalar.addi (Scalar.muli (Scf.iv 0#32 1#32 t) 2#32) 1#32) i1 i2 i3 i4
  obtain ⟨⟨k1, k2, k3⟩, e190⟩ := part190_eq (F := F) i arg2 harg2 arg3 harg3 arg4 harg4 arg5 harg5 arg6 harg6 arg7 harg7 arg8 arg9 v1 v5 v7 v9 v11 v13 v15 v17 v19 t (Scalar.addi (Scalar.muli (Scf.iv 0#32 1#32 t) 2#32) 1#32) j j1 j2 j3 j4
  unfold k0_t1_body
  rw [ew, eh] at e190
  simp only [e180, e181, e182, e183, e185, e186, e187, e188, e189, e190, part184_eq, part191_eq, bind_assoc, pure_bind]
  rw [show k0_pay479 (F := F) (Scalar.cmpi .eq (anchorBV v1 (Scalar.muli (Scf.iv 0#32 1#32 t) 2#32)) 0#32)
      (Scalar.cmpi .eq (anchorBV v1 (Scalar.muli (Scf.iv 0#32 1#32 t) 2#32)) 1#32) (Scalar.ofBits .f32 0x431C0000#32) (Scalar.ofBits .f32 0x43BA8000#32)
      = wBV (anchorBV v1 (Scalar.muli (Scf.iv 0#32 1#32 t) 2#32)) from rfl,
    show k0_pay480 (F := F) (anchorBV v1 (Scalar.muli (Scf.iv 0#32 1#32 t) 2#32)) = hBV (anchorBV v1 (Scalar.muli (Scf.iv 0#32 1#32 t) 2#32)) from rfl]
  unfold pairProg waitOut0 waitOut1 nextIn
  clear e180 e181 e182 e183 e185 e186 e187 e188 e189 e190
  rfl

theorem part193_eq (a b : BitVec 32) : ∃ r, k0_part193 i arg2 harg2 arg3 harg3 arg4 harg4 arg5 harg5 arg6 harg6 arg7 harg7 arg8 arg9 a b = (pure r : TileProg F i _) := ⟨_, rfl⟩

theorem part194_eq (v38 v78 : BitVec 32) : ∃ r, k0_part194 i arg2 harg2 arg3 harg3 arg4 harg4 arg5 harg5 arg6 harg6 arg7 harg7 arg8 arg9 v1 v5 v7 v9 v11 v13 v15 v17 v19 v38 v78
    = (Prog.lift (.enqueueDma (inW arg2 (k0_off1 i) (k0_off1_inb i)) (.here arg4) (.dma (sem0 arg8)) (View.wordExact_bits rfl) harg4.wordExact ⟨Or.inl rfl, trivial⟩)
        >>= fun _ => (Scf.Loop.for k0_t1_loop k0_t1_ok ⟨⟩ fun t _ => pairProg i arg2 arg3 arg4 harg4 arg5 harg5 arg6 harg6 arg7 harg7 arg8 arg9 v1 (lanes v5 v7 v9 v11 v13 v15 v17 v19) t)
        >>= fun _ => pure r : TileProg F i _) := by
  apply Exists.intro
  rw [k0_part194_eq_skeleton]
  unfold k0_part194_skel
  rw [show k0_t1_body i arg2 harg2 arg3 harg3 arg4 harg4 arg5 harg5 arg6 harg6 arg7 harg7 arg8 arg9 v1 v5 v7 v9 v11 v13 v15 v17 v19 v38 v78
      = fun t _ => pairProg i arg2 arg3 arg4 harg4 arg5 harg5 arg6 harg6 arg7 harg7 arg8 arg9 v1 (lanes v5 v7 v9 v11 v13 v15 v17 v19) t from
    funext fun t => funext fun u => pair_eq i arg2 harg2 arg3 harg3 arg4 harg4 arg5 harg5 arg6 harg6 arg7 harg7 arg8 arg9 v1 v5 v7 v9 v11 v13 v15 v17 v19 t v38 v78 u]

theorem part195_eq (a b : BitVec 32) (c : BitVec 1) : ∃ r, k0_part195 i arg2 harg2 arg3 harg3 arg4 harg4 arg5 harg5 arg6 harg6 arg7 harg7 arg8 arg9 v1 a b c
    = (Prog.lift (.waitDma2 (sem0 arg9) arg6 (outW arg3 (k0_off99 i 28#32) (k0_off99_inb i 0)) harg6.wordExact (View.wordExact_bits rfl))
        >>= fun _ => pure r : TileProg F i _) := ⟨_, rfl⟩

theorem part196_eq (a b c d e : BitVec 32) : ∃ r, k0_part196 i arg2 harg2 arg3 harg3 arg4 harg4 arg5 harg5 arg6 harg6 arg7 harg7 arg8 arg9 a b c d e = (pure r : TileProg F i _) := ⟨_, rfl⟩

/-- A worker's number as the kernel computes it from its coordinates. -/
def widBV (i : grid0.Coords) : BitVec 32 :=
  Scalar.addi (Scalar.muli (BitVec.ofNat 32 (i 1).val) 2#32) (BitVec.ofNat 32 (i 0).val)

/-- The lane numbers of a row's eight chunks. -/
def laneG : Fin 8 → FVec F S16 .f32 :=
  lanes k0_pay492 k0_pay493 k0_pay494 k0_pay495 k0_pay496 k0_pay497 k0_pay498 k0_pay499

theorem part192_eq : ∃ a b c, k0_part192 (F := F) i arg2 harg2 arg3 harg3 arg4 harg4 arg5 harg5 arg6 harg6 arg7 harg7 arg8 arg9
    = (pure ⟨widBV i, k0_pay492, k0_pay493, k0_pay494, k0_pay495, k0_pay496, k0_pay497, k0_pay498, k0_pay499, a, b, c⟩ : TileProg F i _) :=
  ⟨_, _, _, rfl⟩

/-- The kernel's body is `tileProg`, from the worker's number and the lane numbers as it computes them. -/
theorem body_eq :
    cc0__sc_body i arg2 harg2 arg3 harg3 arg4 harg4 arg5 harg5 arg6 harg6 arg7 harg7 arg8 arg9 = tileProg (F := F) i arg2 arg3 arg4 harg4 arg5 harg5 arg6 harg6 arg7 harg7 arg8 arg9 (widBV i) laneG := by
  obtain ⟨a1, a2, a3, e192⟩ := part192_eq (F := F) i arg2 harg2 arg3 harg3 arg4 harg4 arg5 harg5 arg6 harg6 arg7 harg7 arg8 arg9
  obtain ⟨b1, e193⟩ := part193_eq (F := F) i arg2 harg2 arg3 harg3 arg4 harg4 arg5 harg5 arg6 harg6 arg7 harg7 arg8 arg9 a1 a3
  obtain ⟨⟨c1, c2, c3⟩, e194⟩ := part194_eq (F := F) i arg2 harg2 arg3 harg3 arg4 harg4 arg5 harg5 arg6 harg6 arg7 harg7 arg8 arg9 (widBV i) k0_pay492 k0_pay493 k0_pay494 k0_pay495 k0_pay496 k0_pay497 k0_pay498 k0_pay499 a2 b1
  obtain ⟨⟨d1, d2, d3, d4, d5⟩, e195⟩ := part195_eq (F := F) i arg2 harg2 arg3 harg3 arg4 harg4 arg5 harg5 arg6 harg6 arg7 harg7 arg8 arg9 (widBV i) c1 c2 c3
  obtain ⟨⟨f1, f2, f3⟩, e196⟩ := part196_eq (F := F) i arg2 harg2 arg3 harg3 arg4 harg4 arg5 harg5 arg6 harg6 arg7 harg7 arg8 arg9 d1 d2 d3 d4 d5
  rw [cc0__sc_body_eq_skeleton]
  unfold cc0__sc_body_skel
  simp only [e192, e193, e194, e195, e196, bind_assoc, pure_bind]
  unfold tileProg laneG
  clear e192 e193 e194 e195 e196
  rfl

end

end Cert.Proof.KI

end
-- ==== Proof.KI.Common.lean ====
/-
  The program as the launch theorem sees it: its labels and body table, the facts of its handshake semaphores, and the
  resources the proof runs over — the handshakes' rounds beside the counters of the tiles' local copies.
-/
module

public import proofs.«01_k».proof.Proof.KI.Pair
public import Idealize.ShloMosaic.Lib.Pipeline.Kit

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes use distinct, unscoped semaphores, and no buffer is a task's shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds: the left factor. -/
abbrev EH : Emb UH (MT nD τ sig (HIx 1) (Elt F) ℕ UU ℕ) := embL

/-- The tile's SparseCore. -/
abbrev cT (i : grid0.Coords) : Fin τ.nSC := (i 0).castLE hcore0
/-- The tile's number in its SparseCore. -/
abbrev jT (i : grid0.Coords) : Fin τ.nSub := (i 1).castLE hsub0
/-- The tile's thread. -/
abbrev thr (d : Dev nD) (i : grid0.Coords) : Thread nD τ := V d (cT i) (jT i)

end Cert.Proof.KI

end
-- ==== Proof.KI.RowWp.lean ====
/-
  What one plane's row loop leaves in its output buffer. A chunk stores sixteen computed lanes; a trip's chunks fill
  512 consecutive elements; thirty-two trips fill the plane. Stated over any target `P` that each chunk's stored lanes
  agree with.
-/
module

public import proofs.«01_k».proof.Proof.KI.Common
public import Idealize.ShloMosaic.Lib.Pipeline.Value

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The sixteen elements of the input plane that chunk `(r, j)` of trip `t` loads. -/
abbrev inRect (t : Fin k0_t2_loop.trips) (r : Fin 4) (j : Fin 8) : Rect S1x128x128 :=
  Rect.unit (s := S1x128x128) (inOff t r j) S1x1x16.size (inOff_inb t r j)
/-- The sixteen elements of the output plane that it stores. -/
abbrev outRect (t : Fin k0_t2_loop.trips) (r : Fin 4) (j : Fin 8) : Rect S1x1x16384 :=
  Rect.unit (s := S1x1x16384) (outOff t r j) S1x1x16.size (outOff_inb t r j)

section

variable (d : Dev nD) (i : grid0.Coords)
  (bi : Memref sig .scVector .vmem S1x128x128 .f32) (bo : Memref sig .scVector .vmem S1x1x16384 .f32)
  (fi : Buf (Elt F) (bi.view.loc (thr d i))) (P : S1x1x16384.Idx → Elt F .f32)

/-- The lanes a chunk's store writes. -/
abbrev chunkV (f : FVec F S16 .f32 → FVec F S16 .f32) (t : Fin k0_t2_loop.trips) (r : Fin 4) (j : Fin 8) : S1x1x16.Idx → Elt F .f32 :=
  shapeCast S1x1x16 (f (shapeCast S16 (bi.view.readAt (Elt F) (inRect t r j).toLoadRect fi) shapeCasts_S1x1x16_S16)) shapeCasts_S16_S1x1x16

/-- The output buffer agrees with `P` on the first `n` elements. -/
def Upto (n : Nat) (g : Buf (Elt F) (bo.view.loc (thr d i))) : Prop :=
  ∀ y : S1x1x16384.Idx, (y 2).val < n → bo.view.read (Elt F) g y = P y

/-- The output buffer agrees with `P` through trip `t` but for the chunks `l`. -/
def Done (t : Nat) (l : List (Fin 4 × Fin 8)) (g : Buf (Elt F) (bo.view.loc (thr d i))) : Prop :=
  ∀ y : S1x1x16384.Idx, (y 2).val < 512 * (t + 1) → (∀ p ∈ l, (y 2).val / 16 ≠ 32 * t + 8 * p.1.val + p.2.val) →
    bo.view.read (Elt F) g y = P y

theorem mem_cells : ∀ p : Fin 4 × Fin 8, p ∈ cells := by decide

/-- Before a trip every chunk of it is outstanding. -/
theorem Done.start {t : Nat} {g : Buf (Elt F) (bo.view.loc (thr d i))} (h : Upto d i bo P (512 * t) g) : Done d i bo P t cells g := by
  intro y hy hl
  refine h y ?_
  by_contra hge
  have h1 : (y 2).val / 16 - 32 * t < 32 := by omega
  have := hl (⟨((y 2).val / 16 - 32 * t) / 8, by omega⟩, ⟨((y 2).val / 16 - 32 * t) % 8, by omega⟩) (mem_cells _)
  simp only at this
  omega

theorem Done.finish {t : Nat} {g : Buf (Elt F) (bo.view.loc (thr d i))} (h : Done d i bo P t [] g) : Upto d i bo P (512 * (t + 1)) g :=
  fun y hy => h y hy (fun _ hp => nomatch hp)

/-- A chunk's store settles the chunk. -/
theorem Done.store {t : Fin k0_t2_loop.trips} {r : Fin 4} {j : Fin 8} {l : List (Fin 4 × Fin 8)} {g : Buf (Elt F) (bo.view.loc (thr d i))}
    (w : S1x1x16.Idx → Elt F .f32) (hw : ∀ x, w x = P ((outRect t r j).emb x))
    (h : Done d i bo P t ((r, j) :: l) g) : Done d i bo P t l ((bo.access (outRect t r j)).write (Elt F) g w Finset.univ) := by
  intro y hy hl
  by_cases hc : (y 2).val / 16 = 32 * t.val + 8 * r.val + j.val
  · have h0 : (y 0).val < 1 := (y 0).isLt
    have h1 : (y 1).val < 1 := (y 1).isLt
    let x : S1x1x16.Idx := fun | ⟨0, _⟩ => ⟨0, Nat.one_pos⟩ | ⟨1, _⟩ => ⟨0, Nat.one_pos⟩ | ⟨2, _⟩ => ⟨(y 2).val % 16, Nat.mod_lt _ (by decide)⟩
    have hx : (outRect t r j).emb x = y := by
      refine funext fun a => Fin.ext ?_
      show outOff t r j a + 1 * (x a).val = (y a).val
      rw [outOff_eq]
      match a with
      | ⟨0, _⟩ => show 0 + 1 * 0 = (y 0).val; omega
      | ⟨1, _⟩ => show 0 + 1 * 0 = (y 1).val; omega
      | ⟨2, _⟩ => show 512 * t.val + 128 * r.val + 16 * j.val + 1 * ((y 2).val % 16) = (y 2).val; omega
    rw [← hx]
    exact (View.read_slice_write_emb (v := bo.view) (outRect t r j) g w (Finset.mem_univ x)).trans (hw x)
  · refine (View.read_slice_write_of_not_mem (v := bo.view) (outRect t r j) g w Finset.univ (y := y) ?_).trans ?_
    rotate_left
    · refine h y hy fun p hp => ?_
      rcases List.mem_cons.mp hp with rfl | hp
      · exact hc
      · exact hl p hp
    · rw [Rect.map_emb_univ]
      rw [Rect.mem_set_unit]
      intro hall
      have h2 := hall 2
      rw [outOff_eq] at h2
      have h2' : 512 * t.val + 128 * r.val + 16 * j.val ≤ (y 2).val ∧ (y 2).val < 512 * t.val + 128 * r.val + 16 * j.val + 16 := h2
      omega

variable (f : Fin k0_t2_loop.trips → Fin 4 → Fin 8 → FVec F S16 .f32 → FVec F S16 .f32)
  (hf : ∀ t r j x, chunkV d i bi fi (f t r j) t r j x = P ((outRect t r j).emb x))

/-- The two buffers, the output one at contents of which `Q` holds. -/
def planePts (q : PosShare TreeShare) (Q : Buf (Elt F) (bo.view.loc (thr d i)) → Prop) : sProp 𝕄 :=
  iprop((bi.view.loc (thr d i) ↦[bi.view.set]{q} fi) ∗ ∃ g, (bo.view.loc (thr d i) ↦[bo.view.set]{fullShare} g) ∗ ⌜Q g⌝)

include hf in
/-- The chunks `l` of a trip. -/
theorem rowProg_wp (q : PosShare TreeShare) (t : Fin k0_t2_loop.trips) (l : List (Fin 4 × Fin 8)) :
    planePts d i bi bo fi q (Done d i bo P t l)
      ⊢ wp frame (wpE (defs₀ (F := F)) 𝒱₀ (thr d i) none) Set.univ (rowProg i bi bo (f t) t l) fun _ => planePts d i bi bo fi q (Done d i bo P t []) := by
  induction l with
  | nil =>
    unfold rowProg
    iintro H
    sl_step
    iexact H
  | cons p l ih =>
    obtain ⟨r, j⟩ := p
    unfold rowProg
    unfold planePts
    iintro ⟨Hi, %g, Ho, %hg⟩
    iapply (wp_load 𝒱₀ (thr d i) none Set.univ (m := bi) (View.setOn_subset_set _ _)) $$ Hi
    iintro Hi
    iapply (wp_load 𝒱₀ (thr d i) none Set.univ (m := bo) (View.setOn_subset_set _ _)) $$ Ho
    iintro Ho
    iapply (wp_store 𝒱₀ (thr d i) none Set.univ (m := bo) (r := outRect t r j) (Mk := Finset.univ) (Memref.setOn_access_subset _ _ _)) $$ Ho
    iintro Ho
    iapply ih
    unfold planePts
    isplitl [Hi]; · iexact Hi
    iexists _
    isplitl [Ho]; · iexact Ho
    ipureintro
    exact hg.store d i bo P _ (hf t r j)

theorem planePts_mono (q : PosShare TreeShare) {Q Q' : Buf (Elt F) (bo.view.loc (thr d i)) → Prop} (h : ∀ g, Q g → Q' g) :
    planePts d i bi bo fi q Q ⊢ planePts d i bi bo fi q Q' := by
  unfold planePts
  iintro ⟨Hi, %g, Ho, %hg⟩
  isplitl [Hi]; · iexact Hi
  iexists g
  isplitl [Ho]; · iexact Ho
  ipureintro
  exact h g hg

include hf in
/-- A plane's row loop fills the output buffer with `P`. -/
theorem rowLoop_wp (q : PosShare TreeShare) :
    planePts d i bi bo fi q (fun _ => True)
      ⊢ wp frame (wpE (defs₀ (F := F)) 𝒱₀ (thr d i) none) Set.univ (rowLoop i bi bo f) fun _ => planePts d i bi bo fi q (Upto d i bo P 16384) := by
  unfold rowLoop Scf.Loop.for
  have hbody : ∀ (t : Fin (Scf.trips k0_t2_loop.lb k0_t2_loop.ub k0_t2_loop.st)) (acc : PUnit),
      planePts d i bi bo fi q (Upto d i bo P (512 * t.val))
        ⊢ wp frame (wpE (defs₀ (F := F)) 𝒱₀ (thr d i) none) Set.univ (rowProg i bi bo (f t) t cells) fun _ => planePts d i bi bo fi q (Upto d i bo P (512 * (t.val + 1))) := by
    intro t _
    exact (planePts_mono d i bi bo fi q fun _ => Done.start d i bo P).trans
      ((rowProg_wp d i bi bo fi P f hf q t cells).trans (wp_mono frame _ _ fun _ => planePts_mono d i bi bo fi q fun _ => Done.finish d i bo P))
  have h0 : planePts d i bi bo fi q (fun _ => True) ⊢ planePts d i bi bo fi q (Upto d i bo P (512 * 0)) :=
    planePts_mono d i bi bo fi q fun _ _ y hy => absurd hy (by omega)
  iintro H
  iapply (Scf.wp_for frame _ Set.univ _ _ _ _ _ _ (fun t _ => planePts d i bi bo fi q (Upto d i bo P (512 * t))) hbody)
  isplitl [H]
  · iapply h0; iexact H
  · iintro %_ H
    rw [show 512 * Scf.trips k0_t2_loop.lb k0_t2_loop.ub k0_t2_loop.st = 16384 from congrArg (512 * ·) trips_32]
    iexact H

end

/-! ## The element a plane's output holds -/

/-- The only index of a lane vector that matters for a lanewise function: lane `n`. -/
def lane (n : Nat) : S16.Idx := fun | ⟨0, _⟩ => ⟨n % 16, Nat.mod_lt _ (by decide)⟩

/-- The sigmoid of one element, as the kernel computes it. -/
def sigS (v : F .f32) : F .f32 := sigV (fun _ => v) (lane 0)
/-- Channels 0 and 1 of one element, the cell's offset being `g`. -/
def offS (g v : F .f32) : F .f32 := offV (fun _ => g) (fun _ => v) (lane 0)
/-- Channels 2 and 3 of one element, the anchor's side being `w`. -/
def expS (w v : F .f32) : F .f32 := expV w (fun _ => v) (lane 0)
/-- The number of row `n`. -/
def rowS (n : Nat) : F .f32 := Scalar.sitofp .f32 (BitVec.ofNat 32 n)
/-- The number of column `n`, as the kernel computes it. -/
def colS (n : Nat) : F .f32 := laneG ⟨n / 16 % 8, Nat.mod_lt _ (by decide)⟩ (lane n)

/-- What the kernel computes of an element at `row`, `col`: by the plane's channel, which the four tests tell. -/
def chanVal (q1 q2 q3 q4 : BitVec 1) (w h : F .f32) (row col : Nat) (v : F .f32) : F .f32 :=
  if q1 = 1#1 then
    if q2 = 1#1 then
      if q3 = 1#1 then
        if q4 = 1#1 then sigS v
        else expS h v
      else expS w v
    else offS (rowS row) v
  else offS (colS col) v

/-- The input plane's element under element `y` of the output plane. -/
def planeIdx (y : S1x1x16384.Idx) : S1x128x128.Idx :=
  fun
  | ⟨0, _⟩ => ⟨0, Nat.one_pos⟩
  | ⟨1, _⟩ => ⟨(y 2).val / 128, by have : (y 2).val < 16384 := (y 2).isLt; show _ < 128; omega⟩
  | ⟨2, _⟩ => ⟨(y 2).val % 128, Nat.mod_lt _ (by decide)⟩

theorem rowBV_eq (t : Fin k0_t2_loop.trips) (r : Fin 4) : rowBV t r = BitVec.ofNat 32 (4 * t.val + r.val) := by
  revert t r; decide +kernel

section

variable (d : Dev nD) (i : grid0.Coords)
  (bi : Memref sig .scVector .vmem S1x128x128 .f32) (bo : Memref sig .scVector .vmem S1x1x16384 .f32)
  (fi : Buf (Elt F) (bi.view.loc (thr d i)))

/-- A chunk's stored lanes, of a lane function that applies `s` at each row and column. -/
theorem chunk_lanes (f : Fin k0_t2_loop.trips → Fin 4 → Fin 8 → FVec F S16 .f32 → FVec F S16 .f32) (s : Nat → Nat → F .f32 → F .f32)
    (hs : ∀ t r j v k, f t r j v k = s (4 * t.val + r.val) (16 * j.val + (k 0).val) (v k))
    (t : Fin k0_t2_loop.trips) (r : Fin 4) (j : Fin 8) (x : S1x1x16.Idx) :
    chunkV d i bi fi (f t r j) t r j x
      = s ((((outRect t r j).emb x) 2).val / 128) ((((outRect t r j).emb x) 2).val % 128) (bi.view.read (Elt F) fi (planeIdx ((outRect t r j).emb x))) := by
  have h0 : (x 0).val < 1 := (x 0).isLt
  have h1 : (x 1).val < 1 := (x 1).isLt
  have h2 : (x 2).val < 16 := (x 2).isLt
  have ht : t.val < 32 := lt_of_lt_of_eq t.isLt trips_32
  have hr := r.isLt
  have hj := j.isLt
  have hk : (lane (x 2).val 0).val = (x 2).val := Nat.mod_eq_of_lt h2
  have hy : (((outRect t r j).emb x) 2).val = 512 * t.val + 128 * r.val + 16 * j.val + (x 2).val := by
    show outOff t r j 2 + 1 * (x 2).val = _
    rw [outOff_eq]
    show 512 * t.val + 128 * r.val + 16 * j.val + 1 * (x 2).val = _
    omega
  have hx : (inRect t r j).emb x = planeIdx ((outRect t r j).emb x) := by
    refine funext fun a => Fin.ext ?_
    show inOff t r j a + 1 * (x a).val = _
    rw [inOff_eq]
    match a with
    | ⟨0, _⟩ => show 0 + 1 * (x 0).val = 0; omega
    | ⟨1, _⟩ => show 4 * t.val + r.val + 1 * (x 1).val = (((outRect t r j).emb x) 2).val / 128; omega
    | ⟨2, _⟩ => show 16 * j.val + 1 * (x 2).val = (((outRect t r j).emb x) 2).val % 128; omega
  have hrow : (S16.rowMajor (lane (x 2).val)).val = (S1x1x16.rowMajor x).val := by
    rw [Shape.rowMajor_val_one, Shape.rowMajor_val_three]
    show (x 2).val % 16 = ((x 0).val * 1 + (x 1).val) * 16 + (x 2).val
    omega
  unfold chunkV
  rw [shapeCast_apply _ _ x (lane (x 2).val) hrow, hs, shapeCast_apply _ _ (lane (x 2).val) x hrow.symm]
  rw [← hx, hk, hy]
  congr 1 <;> first | omega | rfl

/-- What a plane's output holds: `chanVal` at every element. -/
def planeVal (q1 q2 q3 q4 : BitVec 1) (w h : F .f32) (y : S1x1x16384.Idx) : Elt F .f32 :=
  chanVal q1 q2 q3 q4 w h ((y 2).val / 128) ((y 2).val % 128) (bi.view.read (Elt F) fi (planeIdx y))

theorem offV_row (t : Fin k0_t2_loop.trips) (r : Fin 4) (v : FVec F S16 .f32) (k : S16.Idx) :
    offV (rowV t r) v k = offS (rowS (4 * t.val + r.val)) (v k) := by
  unfold rowV; rw [rowBV_eq]; rfl

theorem offV_col (j : Fin 8) (v : FVec F S16 .f32) (k : S16.Idx) :
    offV (laneG j) v k = offS (colS (16 * j.val + (k 0).val)) (v k) := by
  have hk : (k 0).val < 16 := (k 0).isLt
  have hj := j.isLt
  have h1 : (⟨(16 * j.val + (k 0).val) / 16 % 8, Nat.mod_lt _ (by decide)⟩ : Fin 8) = j := Fin.ext (by show (16 * j.val + (k 0).val) / 16 % 8 = j.val; omega)
  have h2 : lane (16 * j.val + (k 0).val) = k := funext fun | ⟨0, _⟩ => Fin.ext (by show (16 * j.val + (k 0).val) % 16 = (k 0).val; omega)
  unfold colS
  rw [h1, h2]
  rfl

/-- One plane: its output buffer is filled with `planeVal`. -/
theorem planeProg_wp (q : PosShare TreeShare) (q1 q2 q3 q4 : BitVec 1) (w h : F .f32) :
    planePts d i bi bo fi q (fun _ => True)
      ⊢ wp frame (wpE (defs₀ (F := F)) 𝒱₀ (thr d i) none) Set.univ (planeProg i bi bo q1 q2 q3 q4 laneG w h)
          fun _ => planePts d i bi bo fi q (Upto d i bo (planeVal d i bi fi q1 q2 q3 q4 w h) 16384) := by
  unfold planeProg
  by_cases h1 : q1 = 1#1
  · rw [if_pos h1]
    by_cases h2 : q2 = 1#1
    · rw [if_pos h2]
      by_cases h3 : q3 = 1#1
      · rw [if_pos h3]
        by_cases h4 : q4 = 1#1
        · rw [if_pos h4]
          refine rowLoop_wp d i bi bo fi _ _ (fun t r j x => ?_) q
          refine (chunk_lanes d i bi fi (fun _ _ _ => sigV) (fun _ _ v => sigS v) (fun _ _ _ _ _ => rfl) t r j x).trans ?_
          unfold planeVal chanVal
          rw [if_pos h1, if_pos h2, if_pos h3, if_pos h4]
        · rw [if_neg h4]
          refine rowLoop_wp d i bi bo fi _ _ (fun t r j x => ?_) q
          refine (chunk_lanes d i bi fi (fun _ _ _ => expV h) (fun _ _ v => expS h v) (fun _ _ _ _ _ => rfl) t r j x).trans ?_
          unfold planeVal chanVal
          rw [if_pos h1, if_pos h2, if_pos h3, if_neg h4]
      · rw [if_neg h3]
        refine rowLoop_wp d i bi bo fi _ _ (fun t r j x => ?_) q
        refine (chunk_lanes d i bi fi (fun _ _ _ => expV w) (fun _ _ v => expS w v) (fun _ _ _ _ _ => rfl) t r j x).trans ?_
        unfold planeVal chanVal
        rw [if_pos h1, if_pos h2, if_neg h3]
    · rw [if_neg h2]
      refine rowLoop_wp d i bi bo fi _ _ (fun t r j x => ?_) q
      refine (chunk_lanes d i bi fi (fun t r _ => offV (rowV t r)) (fun row _ v => offS (rowS row) v) (fun t r _ v k => offV_row t r v k) t r j x).trans ?_
      unfold planeVal chanVal
      rw [if_pos h1, if_neg h2]
  · rw [if_neg h1]
    refine rowLoop_wp d i bi bo fi _ _ (fun t r j x => ?_) q
    refine (chunk_lanes d i bi fi (fun _ _ j => offV (laneG j)) (fun _ col v => offS (colS col) v) (fun _ _ j v k => offV_col j v k) t r j x).trans ?_
    unfold planeVal chanVal
    rw [if_neg h1]

end

end Cert.Proof.KI

end
-- ==== Proof.KI.Forms.lean ====
/-
  The kernel's index arithmetic in closed form. Worker `w` of thirty-two takes the planes `30 w + n`, `n < 30`; plane
  `p` is channel `p / 192` of batch `p % 192 / 3` and anchor `p % 3`. Its input is plane
  `15 · batch + 5 · anchor + channel` of the reshaped input, its output the anchor's third of the channel's row of the
  batch.
-/
module

public import proofs.«01_k».proof.Proof.KI.RowWp

@[expose] public section

noncomputable section

namespace Cert.Proof.KI

open Cert.KernelIdeal Cert.KernelIdeal.Gen
open Idealize.ShloMosaic

variable {F : FTy → Type} [FloatOps F]

/-- A tile's worker number. -/
def wid (i : grid0.Coords) : Nat := 2 * (i 1).val + (i 0).val

theorem wid_lt (i : grid0.Coords) : wid i < 32 := by
  have h0 : (i 0).val < 2 := (i 0).isLt
  have h1 : (i 1).val < 16 := (i 1).isLt
  unfold wid; omega

/-- The input plane's number under plane `p`. -/
def inPl (p : Nat) : Nat := p % 192 / 3 * 15 + p % 3 * 5 + p / 192

/-- Where plane `p` starts in the kernel's input. -/
def inAt (p : Nat) : Fin 3 → Nat := ![inPl p, 0, 0]
/-- Where plane `p` starts in the kernel's output. -/
def outAt (p : Nat) : Fin 3 → Nat := ![p / 192, p % 192 / 3, p % 3 * 16384]

theorem inAt_inb {p : Nat} (h : p < 960) (a : Fin 3) : inAt p a + S1x128x128.size a ≤ S960x128x128.size a := by
  match a with
  | ⟨0, _⟩ => show p % 192 / 3 * 15 + p % 3 * 5 + p / 192 + 1 ≤ 960; omega
  | ⟨1, _⟩ => show 0 + 128 ≤ 128; omega
  | ⟨2, _⟩ => show 0 + 128 ≤ 128; omega

theorem outAt_inb {p : Nat} (h : p < 960) (a : Fin 3) : outAt p a + S1x1x16384.size a ≤ S5x64x49152.size a := by
  match a with
  | ⟨0, _⟩ => show p / 192 + 1 ≤ 5; omega
  | ⟨1, _⟩ => show p % 192 / 3 + 1 ≤ 64; omega
  | ⟨2, _⟩ => show p % 3 * 16384 + 16384 ≤ 49152; omega

/-- Plane `n` of tile `i`. -/
def pl (i : grid0.Coords) (n : Nat) : Nat := wid i * 30 + n

theorem pl_lt (i : grid0.Coords) {n : Nat} (h : n < 30) : pl i n < 960 := by
  have := wid_lt i; unfold pl; omega

theorem trips_15 : k0_t1_loop.trips = 15 := by decide

theorem off1_eq : ∀ i : grid0.Coords, k0_off1 i = inAt (pl i 0) := by decide +kernel
theorem off2_eq : ∀ (i : grid0.Coords) (t : Fin k0_t1_loop.trips), k0_off2 i t = inAt (pl i (2 * t.val + 1)) := by decide +kernel
theorem off51_eq : ∀ (i : grid0.Coords) (t : Fin k0_t1_loop.trips), k0_cond6 t = 1#1 → k0_off51 i t = inAt (pl i (2 * t.val + 2)) := by decide +kernel
theorem off50_eq : ∀ (i : grid0.Coords) (t : Fin k0_t1_loop.trips), k0_off50 i t = outAt (pl i (2 * t.val)) := by decide +kernel
theorem off98_eq : ∀ (i : grid0.Coords) (t : Fin k0_t1_loop.trips), k0_off98 i t = outAt (pl i (2 * t.val + 1)) := by decide +kernel

theorem cond1_iff : ∀ t : Fin k0_t1_loop.trips, k0_cond1 t = 1#1 ↔ t.val ≠ 0 := by decide +kernel
theorem cond7_iff : ∀ t : Fin k0_t1_loop.trips, k0_cond7 t = 1#1 ↔ t.val ≠ 0 := by decide +kernel
theorem cond6_iff : ∀ t : Fin k0_t1_loop.trips, k0_cond6 t = 1#1 ↔ t.val ≠ 14 := by decide +kernel

/-- The four tests of the first plane of a trip tell its channel. -/
theorem conds0 : ∀ (i : grid0.Coords) (t : Fin k0_t1_loop.trips),
    (k0_cond2 i t = 1#1 ↔ pl i (2 * t.val) / 192 ≠ 0) ∧ (k0_cond3 i t = 1#1 ↔ pl i (2 * t.val) / 192 ≠ 1)
      ∧ (k0_cond4 i t = 1#1 ↔ pl i (2 * t.val) / 192 ≠ 2) ∧ (k0_cond5 i t = 1#1 ↔ pl i (2 * t.val) / 192 ≠ 3) := by decide +kernel
/-- The four tests of the second. -/
theorem conds1 : ∀ (i : grid0.Coords) (t : Fin k0_t1_loop.trips),
    (k0_cond8 i t = 1#1 ↔ pl i (2 * t.val + 1) / 192 ≠ 0) ∧ (k0_cond9 i t = 1#1 ↔ pl i (2 * t.val + 1) / 192 ≠ 1)
      ∧ (k0_cond10 i t = 1#1 ↔ pl i (2 * t.val + 1) / 192 ≠ 2) ∧ (k0_cond11 i t = 1#1 ↔ pl i (2 * t.val + 1) / 192 ≠ 3) := by decide +kernel

theorem anchor0 : ∀ (i : grid0.Coords) (t : Fin k0_t1_loop.trips),
    anchorBV (widBV i) (Scalar.muli (Scf.iv 0#32 1#32 t) 2#32) = BitVec.ofNat 32 (pl i (2 * t.val) % 3) := by decide +kernel
theorem anchor1 : ∀ (i : grid0.Coords) (t : Fin k0_t1_loop.trips),
    anchorBV (widBV i) (Scalar.addi (Scalar.muli (Scf.iv 0#32 1#32 t) 2#32) 1#32) = BitVec.ofNat 32 (pl i (2 * t.val + 1) % 3) := by decide +kernel

/-- The width of anchor `a`. -/
def wA (a : Nat) : F .f32 :=
  if a = 0 then Scalar.ofBits .f32 0x42E80000#32 else if a = 1 then Scalar.ofBits .f32 0x431C0000#32 else Scalar.ofBits .f32 0x43BA8000#32
/-- The height of anchor `a`. -/
def hA (a : Nat) : F .f32 :=
  if a = 0 then Scalar.ofBits .f32 0x42B40000#32 else if a = 1 then Scalar.ofBits .f32 0x43460000#32 else Scalar.ofBits .f32 0x43A30000#32

theorem wBV_eq (a : Nat) (h : a < 3) : wBV (F := F) (BitVec.ofNat 32 a) = wA a := by
  match a, h with
  | 0, _ => rfl
  | 1, _ => rfl
  | 2, _ => rfl
theorem hBV_eq (a : Nat) (h : a < 3) : hBV (F := F) (BitVec.ofNat 32 a) = hA a := by
  match a, h with
  | 0, _ => rfl
  | 1, _ => rfl
  | 2, _ => rfl

/-- What the kernel computes of an element `v` of channel `c`, anchor `a`, at `row`, `col`. -/
def elemVal (c a row col : Nat) (v : F .f32) : F .f32 :=
  if c = 0 then offS (colS col) v
  else if c = 1 then offS (rowS row) v
  else if c = 2 then expS (wA a) v
  else if c = 3 then expS (hA a) v
  else sigS v

theorem chanVal_eq (q1 q2 q3 q4 : BitVec 1) (c a row col : Nat) (v : F .f32)
    (h : (q1 = 1#1 ↔ c ≠ 0) ∧ (q2 = 1#1 ↔ c ≠ 1) ∧ (q3 = 1#1 ↔ c ≠ 2) ∧ (q4 = 1#1 ↔ c ≠ 3)) :
    chanVal q1 q2 q3 q4 (wA a) (hA a) row col v = elemVal c a row col v := by
  obtain ⟨h1, h2, h3, h4⟩ := h
  unfold chanVal elemVal
  simp only [h1, h2, h3, h4, ne_eq, ite_not]

end Cert.Proof.KI

end
-- ==== Proof.KI.Copies.lean ====
/-
  The tile's copies. A copy in lends a plane of the input (a read share of the whole input is held) and fills an input
  buffer with it; a copy out lends a filled output buffer and leaves a plane of the output at its values. Each copy has
  a semaphore of its own while it is in flight; its wait hands everything back.
-/
module

public import proofs.«01_k».proof.Proof.KI.Forms
public import Idealize.ShloMosaic.Lib.Transfers

@[expose] public section

noncomputable section

namespace Cert.Proof.KI

open Cert.KernelIdeal Cert.KernelIdeal.Gen
open Idealize.ShloMosaic
open Idealize.ShloMosaic.Transfers (Flight MayWaits)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Where a local copy's counter lives. -/
abbrev EC : UEmb Counters (MT nD τ sig (HIx 1) (Elt F) ℕ UU ℕ) := countersEmb

/-- The kernel's input and output as a tile addresses them. -/
abbrev xV : Memref sig .scVector .hbm S960x128x128 .f32 := Memref.whole main_v0_scv
abbrev yV : Memref sig .scVector .hbm S5x64x49152 .f32 := Memref.whole main_v1_scv

/-- The same arrays on device `d`. -/
abbrev xLoc (d : Dev nD) : Loc nD τ sig := (SparseCore.T d).loc main_v0
abbrev yLoc (d : Dev nD) : Loc nD τ sig := (SparseCore.T d).loc main_v1

/-- Plane `p` of the input, and of the output. -/
abbrev inP (p : Fin 960) : Rect S960x128x128 := Rect.unit (s := S960x128x128) (inAt p) S1x128x128.size (inAt_inb p.isLt)
abbrev outP (p : Fin 960) : Rect S5x64x49152 := Rect.unit (s := S5x64x49152) (outAt p) S1x1x16384.size (outAt_inb p.isLt)

/-- Plane `n` of tile `i`. -/
def plF (i : grid0.Coords) (n : Fin 30) : Fin 960 := ⟨pl i n, pl_lt i n.isLt⟩

/-- The elements of plane `p`. -/
abbrev inSet (d : Dev nD) (p : Fin 960) : Finset (Idx (xLoc d)) := (xV.view.slice (inP p)).set
abbrev outSet (d : Dev nD) (p : Fin 960) : Finset (Idx (yLoc d)) := (yV.view.slice (outP p)).set

/-- The input element under an element of the output. -/
def srcIdx (y : S5x64x49152.Idx) : S960x128x128.Idx :=
  fun
  | ⟨0, _⟩ => ⟨(y 1).val * 15 + (y 2).val / 16384 * 5 + (y 0).val, by
      have h0 : (y 0).val < 5 := (y 0).isLt
      have h1 : (y 1).val < 64 := (y 1).isLt
      have h2 : (y 2).val < 49152 := (y 2).isLt
      show _ < 960
      omega⟩
  | ⟨1, _⟩ => ⟨(y 2).val % 16384 / 128, by show _ < 128; omega⟩
  | ⟨2, _⟩ => ⟨(y 2).val % 128, Nat.mod_lt _ (by decide)⟩

/-- What the kernel leaves in its output, of the input `X`. -/
def outVal (X : S960x128x128.Idx → F .f32) (y : S5x64x49152.Idx) : F .f32 :=
  elemVal (y 0).val ((y 2).val / 16384) ((y 2).val % 16384 / 128) ((y 2).val % 128) (X (srcIdx y))

/-- An element of plane `p` of the output lies over the same element of plane `p` of the input. -/
theorem srcIdx_outP (p : Fin 960) (y : S1x1x16384.Idx) : srcIdx ((outP p).emb y) = (inP p).emb (planeIdx y) := by
  have h0 : (y 0).val < 1 := (y 0).isLt
  have h1 : (y 1).val < 1 := (y 1).isLt
  have h2 : (y 2).val < 16384 := (y 2).isLt
  have hp := p.isLt
  refine funext fun a => Fin.ext ?_
  match a with
  | ⟨0, _⟩ =>
    show (p.val % 192 / 3 + 1 * (y 1).val) * 15 + (p.val % 3 * 16384 + 1 * (y 2).val) / 16384 * 5 + (p.val / 192 + 1 * (y 0).val)
      = (p.val % 192 / 3 * 15 + p.val % 3 * 5 + p.val / 192) + 1 * 0
    omega
  | ⟨1, _⟩ => show (p.val % 3 * 16384 + 1 * (y 2).val) % 16384 / 128 = 0 + 1 * ((y 2).val / 128); omega
  | ⟨2, _⟩ => show (p.val % 3 * 16384 + 1 * (y 2).val) % 128 = 0 + 1 * ((y 2).val % 128); omega

/-- The output's value at an element of plane `p`. -/
theorem outVal_outP (X : S960x128x128.Idx → F .f32) (p : Fin 960) (y : S1x1x16384.Idx) :
    outVal X ((outP p).emb y) = elemVal (p.val / 192) (p.val % 3) ((y 2).val / 128) ((y 2).val % 128) (X ((inP p).emb (planeIdx y))) := by
  have h0 : (y 0).val < 1 := (y 0).isLt
  have h2 : (y 2).val < 16384 := (y 2).isLt
  have hp := p.isLt
  unfold outVal
  rw [srcIdx_outP]
  have e0 : (((outP p).emb y) 0).val = p.val / 192 := by show p.val / 192 + 1 * (y 0).val = _; omega
  have e2 : (((outP p).emb y) 2).val = p.val % 3 * 16384 + (y 2).val := by show p.val % 3 * 16384 + 1 * (y 2).val = _; omega
  rw [e0, e2]
  congr 1 <;> omega

section

variable (d : Dev nD) (i : grid0.Coords)
  (bi : Memref sig .scVector .vmem S1x128x128 .f32) (bo : Memref sig .scVector .vmem S1x1x16384 .f32)
  (X : S960x128x128.Idx → F .f32) (sem : DmaSem sig)

/-- The tile's `owes`, with waits at no index recorded beyond `W`. -/
def Ow (O : CellTallies nD τ sig (HIx 1)) (W : Waits sig (HIx 1)) : sProp 𝕄 :=
  iprop(∃ W', ⌜∀ p ∈ W', p ∈ W ∨ p.2 = none⌝ ∗ owes (thr d i) O W')

/-- A read share of the whole input. -/
def xTok (q : PosShare TreeShare) : sProp 𝕄 := xLoc d ↦{q} X

/-- An input buffer, whatever it holds; and holding plane `p`. -/
def biAny : sProp 𝕄 := iprop(∃ f, bi.view.loc (thr d i) ↦[bi.view.set]{fullShare} f)
def biAt (p : Fin 960) : sProp 𝕄 :=
  iprop(∃ f, (bi.view.loc (thr d i) ↦[bi.view.set]{fullShare} f) ∗ ⌜∀ y, bi.view.read (Elt F) f y = X ((inP p).emb y)⌝)

/-- An output buffer, whatever it holds; and holding plane `p`'s values. -/
def boAny : sProp 𝕄 := iprop(∃ f, bo.view.loc (thr d i) ↦[bo.view.set]{fullShare} f)
def boAt (p : Fin 960) : sProp 𝕄 :=
  iprop(∃ f, (bo.view.loc (thr d i) ↦[bo.view.set]{fullShare} f) ∗ ⌜∀ y, bo.view.read (Elt F) f y = outVal X ((outP p).emb y)⌝)

/-- Plane `p` of the output, whatever it holds; and at its values. -/
def yAny (p : Fin 960) : sProp 𝕄 := iprop(∃ f, yLoc d ↦[outSet d p]{fullShare} f)
def yAt (p : Fin 960) : sProp 𝕄 := yLoc d ↦[outSet d p]{fullShare} (outVal X : Buf (Elt F) (yLoc d))

/-- Plane `p`'s copy in, in flight: the wait gives the filled buffer and the lent plane; the rest of the input is kept
    beside. -/
def InFl (q : PosShare TreeShare) (p : Fin 960) : sProp 𝕄 :=
  iprop(Flight EC (thr d i) (.dma sem) none bi.view.dmaCredit iprop(biAt d i bi X p ∗ (xLoc d ↦[inSet d p]{q} X))
    ∗ (xLoc d ↦[Finset.univ \ inSet d p]{q} X))

/-- Plane `p`'s copy out, in flight. -/
def OutFl (p : Fin 960) : sProp 𝕄 :=
  Flight EC (thr d i) (.dma sem) none (yV.view.slice (outP p)).dmaCredit iprop(yAt d X p ∗ boAny d i bo)

/-- A copy in starts. -/
theorem enq_in {α : Type} (q : PosShare TreeShare) (p : Fin 960) (off : Fin 3 → Nat) (h : ∀ a, off a + S1x128x128.size a ≤ S960x128x128.size a)
    (hoff : off = inAt p) (hw : (inW xV off h).view.WordExact) (hd : bi.view.WordExact)
    (k : PUnit → TileProg F i α) (Q : α → sProp 𝕄) :
    iprop(xTok d X q ∗ biAny d i bi ∗ semVal (thr d i, .dma sem) 0)
      ⊢ iprop((InFl d i bi X sem q p -∗ wp frame (wpE (defs₀ (F := F)) 𝒱₀ (thr d i) none) Set.univ (k ⟨⟩) Q)
          -∗ wp frame (wpE (defs₀ (F := F)) 𝒱₀ (thr d i) none) Set.univ (.op (.enqueueDma (inW xV off h) (.here bi) (.dma sem) hw hd ⟨Or.inl rfl, trivial⟩) k) Q) := by
  subst hoff
  unfold xTok biAny InFl
  iintro ⟨Hx, ⟨%f, Hb⟩, Hs⟩ Hk
  ihave Hx' := (pointsTo_split_subset (Finset.subset_univ (inSet d p))).1 $$ Hx
  icases Hx' with ⟨Hp, Hr⟩
  iapply (Transfers.wp_dmaLocal EC 𝒱₀ (thr d i) none (src := inW xV (inAt p) (inAt_inb p.isLt)) (dst := bi) (sm := .dma sem) (q := q) (fs := X) (Sd := bi.view.set) (fd := f)
    none bi.view.dmaCredit rfl (View.dmaCredit_pos _ (show 0 < S1x128x128.numel by decide)) (Finset.Subset.refl _)) $$ [Hp Hb Hs]
  · isplitl [Hp]; · iexact Hp
    isplitl [Hb]; · iexact Hb
    iexact Hs
  iintro Hf
  iapply Hk
  isplitl [Hf]
  · iapply (Transfers.Flight_mono EC (thr d i) ?_) $$ Hf
    iintro ⟨Hb, Hp⟩
    isplitl [Hb]
    · unfold biAt
      iexists _
      isplitl [Hb]; · iexact Hb
      ipureintro
      intro y
      rw [View.read_write_univ]
      rfl
    · iexact Hp
  · iexact Hr

/-- A copy in lands. -/
theorem wait_in {α : Type} (q : PosShare TreeShare) (p : Fin 960) (off : Fin 3 → Nat) (h : ∀ a, off a + S1x128x128.size a ≤ S960x128x128.size a)
    (hw : (inW xV off h).view.WordExact) (hd : bi.view.WordExact) (O : CellTallies nD τ sig (HIx 1)) (W : Waits sig (HIx 1))
    (k : PUnit → TileProg F i α) (Q : α → sProp 𝕄) :
    iprop(InFl d i bi X sem q p ∗ Ow d i O W ∗ MayWaits (thr d i) none O)
      ⊢ iprop((iprop(xTok d X q ∗ biAt d i bi X p ∗ semVal (thr d i, .dma sem) 0 ∗ Ow (F := F) d i O W)
            -∗ wp frame (wpE (defs₀ (F := F)) 𝒱₀ (thr d i) none) Set.univ (k ⟨⟩) Q)
          -∗ wp frame (wpE (defs₀ (F := F)) 𝒱₀ (thr d i) none) Set.univ (.op (.waitDma2 sem (inW xV off h) bi hw hd) k) Q) := by
  unfold InFl Ow
  iintro ⟨⟨Hf, Hr⟩, ⟨%W', %hW', HO⟩, Hmw⟩ Hk
  iapply (Transfers.wp_waitLocalO EC 𝒱₀ (thr d i) none none rfl) $$ [Hf HO Hmw]
  · isplitl [Hf]; · iexact Hf
    isplitl [HO]; · iexact HO
    iapply (Transfers.MayWaits.elim (.dma sem)) $$ Hmw
  iintro ⟨⟨Hb, Hp⟩, Hs, HO⟩
  iapply Hk
  isplitl [Hp Hr]
  · unfold xTok
    iapply (pointsTo_split_subset (Finset.subset_univ (inSet d p))).2
    isplitl [Hp] <;> iassumption
  isplitl [Hb]; · iexact Hb
  isplitl [Hs]; · iexact Hs
  iexists _
  isplitr
  rotate_left
  · iexact HO
  ipureintro
  intro e he
  rcases Finset.mem_insert.mp he with rfl | he
  · exact .inr rfl
  · exact hW' e he

omit [FloatOps F] in
/-- Elements of plane `p` written from `w` are `w`'s. -/
theorem out_written_at (p : Fin 960) (g : (yV.view.slice (outP p)).ty.Contents (Elt F)) (w : S1x1x16384.Idx → Elt F .f32) (y : S1x1x16384.Idx) :
    (yV.view.slice (outP p)).write (Elt F) g w Finset.univ ((yV.view.slice (outP p)).emb y) = w y :=
  (View.write_emb_of_mem (v := yV.view.slice (outP p)) g w (Finset.mem_univ y)).trans (cast_eq _ _)

theorem out_written (p : Fin 960) (g : (yV.view.slice (outP p)).ty.Contents (Elt F)) (w : S1x1x16384.Idx → Elt F .f32)
    (hw : ∀ y, w y = outVal X ((outP p).emb y)) (e : S5x64x49152.Idx) (he : e ∈ (yV.view.slice (outP p)).set) :
    (yV.view.slice (outP p)).write (Elt F) g w Finset.univ e = outVal X e := by
  have he' : ∃ y, (yV.view.slice (outP p)).emb y = e := by
    obtain ⟨y, -, hy⟩ := Finset.mem_map.mp he
    exact ⟨y, hy⟩
  obtain ⟨y, hy⟩ := he'
  rw [← hy]
  exact (out_written_at p g w y).trans (hw y)

/-- A copy out starts. -/
theorem enq_out {α : Type} (p : Fin 960) (off : Fin 3 → Nat) (h : ∀ a, off a + S1x1x16384.size a ≤ S5x64x49152.size a)
    (hoff : off = outAt p) (hw : bo.view.WordExact) (hd : (outW yV off h).view.WordExact)
    (k : PUnit → TileProg F i α) (Q : α → sProp 𝕄) :
    iprop(boAt d i bo X p ∗ yAny d p ∗ semVal (thr d i, .dma sem) 0)
      ⊢ iprop((OutFl d i bo X sem p -∗ wp frame (wpE (defs₀ (F := F)) 𝒱₀ (thr d i) none) Set.univ (k ⟨⟩) Q)
          -∗ wp frame (wpE (defs₀ (F := F)) 𝒱₀ (thr d i) none) Set.univ (.op (.enqueueDma bo (.here (outW yV off h)) (.dma sem) hw hd ⟨Or.inl rfl, trivial⟩) k) Q) := by
  subst hoff
  unfold boAt yAny OutFl
  iintro ⟨⟨%f, Hb, %hf⟩, ⟨%g, Hy⟩, Hs⟩ Hk
  iapply (Transfers.wp_dmaLocal EC 𝒱₀ (thr d i) none (src := bo) (dst := outW yV (outAt p) (outAt_inb p.isLt)) (sm := .dma sem) (q := fullShare) (fs := f) (Sd := outSet d p) (fd := g)
    none (yV.view.slice (outP p)).dmaCredit rfl (View.dmaCredit_pos _ (show 0 < S1x1x16384.numel by decide)) (Finset.Subset.refl _)) $$ [Hb Hy Hs]
  · isplitl [Hb]; · iexact Hb
    isplitl [Hy]; · iexact Hy
    iexact Hs
  iintro Hf
  iapply Hk
  iapply (Transfers.Flight_mono EC (thr d i) ?_) $$ Hf
  iintro ⟨Hy, Hb⟩
  isplitl [Hy]
  · unfold yAt
    iapply (Entails.of_eq (pointsTo_congr ?_)) $$ Hy
    exact out_written X p g _ hf
  · unfold boAny
    iexists _
    iexact Hb

/-- A copy out lands. -/
theorem wait_out {α : Type} (p : Fin 960) (off : Fin 3 → Nat) (h : ∀ a, off a + S1x1x16384.size a ≤ S5x64x49152.size a)
    (hw : bo.view.WordExact) (hd : (outW yV off h).view.WordExact) (O : CellTallies nD τ sig (HIx 1)) (W : Waits sig (HIx 1))
    (k : PUnit → TileProg F i α) (Q : α → sProp 𝕄) :
    iprop(OutFl d i bo X sem p ∗ Ow d i O W ∗ MayWaits (thr d i) none O)
      ⊢ iprop((iprop(yAt d X p ∗ boAny d i bo ∗ semVal (thr d i, .dma sem) 0 ∗ Ow (F := F) d i O W)
            -∗ wp frame (wpE (defs₀ (F := F)) 𝒱₀ (thr d i) none) Set.univ (k ⟨⟩) Q)
          -∗ wp frame (wpE (defs₀ (F := F)) 𝒱₀ (thr d i) none) Set.univ (.op (.waitDma2 sem bo (outW yV off h) hw hd) k) Q) := by
  unfold OutFl Ow
  iintro ⟨Hf, ⟨%W', %hW', HO⟩, Hmw⟩ Hk
  iapply (Transfers.wp_waitLocalO EC 𝒱₀ (thr d i) none none rfl) $$ [Hf HO Hmw]
  · isplitl [Hf]; · iexact Hf
    isplitl [HO]; · iexact HO
    iapply (Transfers.MayWaits.elim (.dma sem)) $$ Hmw
  iintro ⟨⟨Hy, Hb⟩, Hs, HO⟩
  iapply Hk
  isplitl [Hy]; · iexact Hy
  isplitl [Hb]; · iexact Hb
  isplitl [Hs]; · iexact Hs
  iexists _
  isplitr
  rotate_left
  · iexact HO
  ipureintro
  intro e he
  rcases Finset.mem_insert.mp he with rfl | he
  · exact .inr rfl
  · exact hW' e he

end

end Cert.Proof.KI

end
-- ==== Proof.KI.TileWp.lean ====
/-
  A tile's run. The pair loop's invariant says which copies are in flight and which planes of the output are at their
  values; the tile starts with its thirty planes of the output at anything and ends with all thirty at their values.
-/
module

public import proofs.«01_k».proof.Proof.KI.Copies

@[expose] public section

noncomputable section

namespace Cert.Proof.KI

open Cert.KernelIdeal Cert.KernelIdeal.Gen
open Idealize.ShloMosaic
open Idealize.ShloMosaic.Transfers (Flight MayWaits)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Plane `n` of tile `i`, as a plane's number. -/
def plN (i : grid0.Coords) (n : Nat) : Fin 960 := ⟨pl i n % 960, Nat.mod_lt _ (by decide)⟩

theorem plN_val (i : grid0.Coords) {n : Nat} (h : n < 30) : (plN i n).val = pl i n := Nat.mod_eq_of_lt (pl_lt i h)

section

variable (d : Dev nD) (i : grid0.Coords) (X : S960x128x128.Idx → F .f32)

/-- One plane's computation: the input buffer holding plane `p`, the output buffer gets the plane's values. -/
theorem plane_step {α : Type} (bi : Memref sig .scVector .vmem S1x128x128 .f32) (bo : Memref sig .scVector .vmem S1x1x16384 .f32) (p : Fin 960)
    (q1 q2 q3 q4 : BitVec 1) (w h : F .f32)
    (hq : (q1 = 1#1 ↔ p.val / 192 ≠ 0) ∧ (q2 = 1#1 ↔ p.val / 192 ≠ 1) ∧ (q3 = 1#1 ↔ p.val / 192 ≠ 2) ∧ (q4 = 1#1 ↔ p.val / 192 ≠ 3))
    (hw : w = wA (p.val % 3)) (hh : h = hA (p.val % 3)) (k : Unit → TileProg F i α) (Q : α → sProp 𝕄) :
    iprop(biAt d i bi X p ∗ boAny d i bo)
      ⊢ iprop((iprop(biAny d i bi ∗ boAt d i bo X p) -∗ wp frame (wpE (defs₀ (F := F)) 𝒱₀ (thr d i) none) Set.univ (k ⟨⟩) Q)
          -∗ wp frame (wpE (defs₀ (F := F)) 𝒱₀ (thr d i) none) Set.univ (planeProg i bi bo q1 q2 q3 q4 laneG w h >>= k) Q) := by
  subst hw hh
  unfold biAt boAny
  iintro ⟨⟨%f, Hb, %hf⟩, ⟨%g, Ho⟩⟩ Hk
  rw [wp_bind]
  iapply (wp_wand frame _ _) $$ [Hb Ho]
  · iapply (planeProg_wp d i bi bo f fullShare q1 q2 q3 q4 (wA (p.val % 3)) (hA (p.val % 3)))
    unfold planePts
    isplitl [Hb]; · iexact Hb
    iexists g
    isplitl [Ho]; · iexact Ho
    ipureintro; trivial
  iintro %_ H
  unfold planePts
  icases H with ⟨Hb, %g', Ho, %hg⟩
  iapply Hk
  isplitl [Hb]
  · unfold biAny; iexists f; iexact Hb
  unfold boAt
  iexists g'
  isplitl [Ho]; · iexact Ho
  ipureintro
  intro y
  rw [hg y (y 2).isLt, outVal_outP, ← hf (planeIdx y)]
  exact chanVal_eq _ _ _ _ _ _ _ _ _ hq

end

section

variable (d : Dev nD) (i : grid0.Coords) (X : S960x128x128.Idx → F .f32) (q0 q1 : PosShare TreeShare)
  (O : CellTallies nD τ sig (HIx 1)) (W : Waits sig (HIx 1))
  (arg4 : Memref sig .scVector .vmem S1x128x128 .f32) (harg4 : arg4.IsWhole) (arg5 : Memref sig .scVector .vmem S1x128x128 .f32) (harg5 : arg5.IsWhole) (arg6 : Memref sig .scVector .vmem S1x1x16384 .f32) (harg6 : arg6.IsWhole) (arg7 : Memref sig .scVector .vmem S1x1x16384 .f32) (harg7 : arg7.IsWhole) (arg8 arg9 : DmaSems sig S2)

/-- A counter at zero. -/
abbrev zero (s : DmaSem sig) : sProp 𝕄 := semVal (thr d i, .dma s) 0

/-- The first input buffer before trip `n`: the trip's first plane on its way in; after the last trip, nothing. -/
def inSt (n : Nat) : sProp 𝕄 :=
  if n < 15 then InFl d i arg4 X (sem0 arg8) q0 (plN i (2 * n))
  else iprop(xTok d X q0 ∗ biAny d i arg4 ∗ zero d i (sem0 arg8))

/-- An output buffer before trip `n`: idle at first, then its last plane (the one of trip `n - 1`) on its way out. -/
def outSt (bo : Memref sig .scVector .vmem S1x1x16384 .f32) (s : DmaSem sig) (r n : Nat) : sProp 𝕄 :=
  if n = 0 then iprop(boAny d i bo ∗ zero d i s) else OutFl d i bo X s (plN i (2 * n - 2 + r))

/-- What the wait for it gives. -/
def outBack (r n : Nat) : sProp 𝕄 := if n = 0 then iprop(emp) else yAt d X (plN i (2 * n - 2 + r))

/-- The planes not yet started, and those at their values, before trip `n`. -/
def todo (n : Nat) : sProp 𝕄 := bigSep (Finset.Ico (2 * n) 30) fun k => yAny (F := F) d (plN i k)
def done (n : Nat) : sProp 𝕄 := bigSep (Finset.range (2 * n - 2)) fun k => yAt d X (plN i k)

theorem todo_step {t : Nat} (ht : t < 15) : (todo d i t : sProp 𝕄) = iprop(yAny d (plN i (2 * t)) ∗ yAny d (plN i (2 * t + 1)) ∗ todo d i (t + 1)) := by
  unfold todo
  rw [show Finset.Ico (2 * t) 30 = insert (2 * t) (insert (2 * t + 1) (Finset.Ico (2 * (t + 1)) 30)) by
      ext x; simp only [Finset.mem_Ico, Finset.mem_insert]; omega,
    SparseCore.bigSep_insert' (by simp only [Finset.mem_Ico, Finset.mem_insert]; omega), SparseCore.bigSep_insert' (by simp only [Finset.mem_Ico]; omega)]

theorem done_step (t : Nat) : iprop(done d i X t ∗ outBack d i X 0 t ∗ outBack d i X 1 t) ⊢ (done d i X (t + 1) : sProp 𝕄) := by
  unfold done outBack
  by_cases h : t = 0
  · subst h
    rw [if_pos rfl, if_pos rfl]
    iintro ⟨H, -, -⟩
    iexact H
  · rw [if_neg h, if_neg h,
      show Finset.range (2 * (t + 1) - 2) = insert (2 * t - 2 + 0) (insert (2 * t - 2 + 1) (Finset.range (2 * t - 2))) by
        ext x; simp only [Finset.mem_range, Finset.mem_insert]; omega,
      SparseCore.bigSep_insert' (by simp only [Finset.mem_range, Finset.mem_insert]; omega), SparseCore.bigSep_insert' (by simp only [Finset.mem_range]; omega)]
    iintro ⟨H, H0, H1⟩
    isplitl [H0]; · iexact H0
    isplitl [H1] <;> iassumption

/-- The pair loop's invariant before trip `n`. -/
def pairInv (n : Nat) : sProp 𝕄 :=
  iprop(MayWaits (thr d i) none O ∗ Ow d i O W ∗ inSt d i X q0 arg4 arg8 n
    ∗ (xTok d X q1 ∗ biAny d i arg5 ∗ zero d i (sem1 arg8))
    ∗ outSt d i X arg6 (sem0 arg9) 0 n ∗ outSt d i X arg7 (sem1 arg9) 1 n ∗ todo d i n ∗ done d i X n)

/-- The wait for the first output buffer. -/
theorem waitOut0_wp {α : Type} (t : Fin k0_t1_loop.trips) (k : Unit → TileProg F i α) (Q : α → sProp 𝕄) :
    iprop(outSt d i X arg6 (sem0 arg9) 0 t.val ∗ Ow d i O W ∗ MayWaits (thr d i) none O)
      ⊢ iprop((iprop(outBack d i X 0 t.val ∗ boAny d i arg6 ∗ zero d i (sem0 arg9) ∗ Ow (F := F) d i O W)
            -∗ wp frame (wpE (defs₀ (F := F)) 𝒱₀ (thr d i) none) Set.univ (k ⟨⟩) Q)
          -∗ wp frame (wpE (defs₀ (F := F)) 𝒱₀ (thr d i) none) Set.univ (waitOut0 i yV arg6 harg6 arg9 t >>= k) Q) := by
  unfold outSt outBack waitOut0
  by_cases h : t.val = 0
  · rw [if_pos h, if_pos h, dif_neg (fun e => (cond1_iff t).mp e h)]
    iintro ⟨⟨Hb, Hs⟩, HO, -⟩ Hk
    rw [pure_bind]
    iapply Hk
    isplitr; · iempintro
    isplitl [Hb]; · iexact Hb
    isplitl [Hs] <;> iassumption
  · rw [if_neg h, if_neg h, dif_pos ((cond1_iff t).mpr h)]
    exact wait_out d i arg6 X (sem0 arg9) (plN i (2 * t.val - 2 + 0)) (k0_off4 i t) _ _ _ O W k Q

/-- The wait for the second. -/
theorem waitOut1_wp {α : Type} (t : Fin k0_t1_loop.trips) (k : Unit → TileProg F i α) (Q : α → sProp 𝕄) :
    iprop(outSt d i X arg7 (sem1 arg9) 1 t.val ∗ Ow d i O W ∗ MayWaits (thr d i) none O)
      ⊢ iprop((iprop(outBack d i X 1 t.val ∗ boAny d i arg7 ∗ zero d i (sem1 arg9) ∗ Ow (F := F) d i O W)
            -∗ wp frame (wpE (defs₀ (F := F)) 𝒱₀ (thr d i) none) Set.univ (k ⟨⟩) Q)
          -∗ wp frame (wpE (defs₀ (F := F)) 𝒱₀ (thr d i) none) Set.univ (waitOut1 i yV arg7 harg7 arg9 t >>= k) Q) := by
  unfold outSt outBack waitOut1
  by_cases h : t.val = 0
  · rw [if_pos h, if_pos h, dif_neg (fun e => (cond7_iff t).mp e h)]
    iintro ⟨⟨Hb, Hs⟩, HO, -⟩ Hk
    rw [pure_bind]
    iapply Hk
    isplitr; · iempintro
    isplitl [Hb]; · iexact Hb
    isplitl [Hs] <;> iassumption
  · rw [if_neg h, if_neg h, dif_pos ((cond7_iff t).mpr h)]
    exact wait_out d i arg7 X (sem1 arg9) (plN i (2 * t.val - 2 + 1)) (k0_off52 i t) _ _ _ O W k Q

/-- The next copy into the first input buffer. -/
theorem nextIn_wp {α : Type} (t : Fin k0_t1_loop.trips) (k : Unit → TileProg F i α) (Q : α → sProp 𝕄) :
    iprop(xTok d X q0 ∗ biAny d i arg4 ∗ zero d i (sem0 arg8))
      ⊢ iprop((inSt d i X q0 arg4 arg8 (t.val + 1) -∗ wp frame (wpE (defs₀ (F := F)) 𝒱₀ (thr d i) none) Set.univ (k ⟨⟩) Q)
          -∗ wp frame (wpE (defs₀ (F := F)) 𝒱₀ (thr d i) none) Set.univ (nextIn i xV arg4 harg4 arg8 t >>= k) Q) := by
  have ht : t.val < 15 := lt_of_lt_of_eq t.isLt trips_15
  unfold inSt nextIn
  by_cases h : t.val = 14
  · rw [if_neg (by omega), dif_neg (fun e => (cond6_iff t).mp e h)]
    iintro H Hk
    rw [pure_bind]
    iapply Hk $$ H
  · rw [if_pos (by omega), dif_pos ((cond6_iff t).mpr h)]
    refine enq_in d i arg4 X (sem0 arg8) q0 (plN i (2 * (t.val + 1))) (k0_off51 i t) _ ?_ _ _ k Q
    rw [off51_eq i t ((cond6_iff t).mpr h), plN_val i (by omega)]
    rfl

set_option maxHeartbeats 2000000 in
/-- One trip. -/
theorem pair_wp (t : Fin k0_t1_loop.trips) :
    pairInv d i X q0 q1 O W arg4 arg5 arg6 arg7 arg8 arg9 t.val
      ⊢ wp frame (wpE (defs₀ (F := F)) 𝒱₀ (thr d i) none) Set.univ
          (pairProg i xV yV arg4 harg4 arg5 harg5 arg6 harg6 arg7 harg7 arg8 arg9 (widBV i) laneG t)
          fun _ => pairInv d i X q0 q1 O W arg4 arg5 arg6 arg7 arg8 arg9 (t.val + 1) := by
  have ht : t.val < 15 := lt_of_lt_of_eq t.isLt trips_15
  have e0 : (plN i (2 * t.val)).val = pl i (2 * t.val) := plN_val i (by omega)
  have e1 : (plN i (2 * t.val + 1)).val = pl i (2 * t.val + 1) := plN_val i (by omega)
  unfold pairInv pairProg
  rw [todo_step d i ht, show (inSt d i X q0 arg4 arg8 t.val : sProp 𝕄) = InFl d i arg4 X (sem0 arg8) q0 (plN i (2 * t.val)) from if_pos ht]
  iintro ⟨#Hmw, HO, Hin0, ⟨Hx1, Hb1, Hs1⟩, Ho0, Ho1, ⟨Hy0, Hy1, Htodo⟩, Hdone⟩
  -- the second plane's copy in
  iapply (enq_in d i arg5 X (sem1 arg8) q1 (plN i (2 * t.val + 1)) (k0_off2 i t) _ (by rw [off2_eq, e1])) $$ [Hx1 Hb1 Hs1]
  · isplitl [Hx1]; · iexact Hx1
    isplitl [Hb1] <;> iassumption
  iintro Hin1
  -- the first plane lands
  iapply (wait_in d i arg4 X (sem0 arg8) q0 (plN i (2 * t.val)) (k0_off3 i t)) $$ [Hin0 HO]
  · isplitl [Hin0]; · iexact Hin0
    isplitl [HO]; · iexact HO
    iexact Hmw
  iintro ⟨Hx0, Hb0, Hs0, HO⟩
  iapply (waitOut0_wp d i X O W arg6 harg6 arg9 t) $$ [Ho0 HO]
  · isplitl [Ho0]; · iexact Ho0
    isplitl [HO]; · iexact HO
    iexact Hmw
  iintro ⟨Hd0, Ho0, Hso0, HO⟩
  iapply (plane_step d i X arg4 arg6 (plN i (2 * t.val)) _ _ _ _ _ _ (by rw [e0]; exact conds0 i t)
    (by rw [anchor0, e0]; exact wBV_eq _ (Nat.mod_lt _ (by decide))) (by rw [anchor0, e0]; exact hBV_eq _ (Nat.mod_lt _ (by decide)))) $$ [Hb0 Ho0]
  · isplitl [Hb0] <;> iassumption
  iintro ⟨Hb0, Ho0⟩
  iapply (enq_out d i arg6 X (sem0 arg9) (plN i (2 * t.val)) (k0_off50 i t) _ (by rw [off50_eq, e0])) $$ [Ho0 Hy0 Hso0]
  · isplitl [Ho0]; · iexact Ho0
    isplitl [Hy0] <;> iassumption
  iintro Ho0
  iapply (nextIn_wp d i X q0 arg4 harg4 arg8 t) $$ [Hx0 Hb0 Hs0]
  · isplitl [Hx0]; · iexact Hx0
    isplitl [Hb0] <;> iassumption
  iintro Hin0
  -- the second plane
  iapply (wait_in d i arg5 X (sem1 arg8) q1 (plN i (2 * t.val + 1)) (k0_off2 i t)) $$ [Hin1 HO]
  · isplitl [Hin1]; · iexact Hin1
    isplitl [HO]; · iexact HO
    iexact Hmw
  iintro ⟨Hx1, Hb1, Hs1, HO⟩
  iapply (waitOut1_wp d i X O W arg7 harg7 arg9 t) $$ [Ho1 HO]
  · isplitl [Ho1]; · iexact Ho1
    isplitl [HO]; · iexact HO
    iexact Hmw
  iintro ⟨Hd1, Ho1, Hso1, HO⟩
  iapply (plane_step d i X arg5 arg7 (plN i (2 * t.val + 1)) _ _ _ _ _ _ (by rw [e1]; exact conds1 i t)
    (by rw [anchor1, e1]; exact wBV_eq _ (Nat.mod_lt _ (by decide))) (by rw [anchor1, e1]; exact hBV_eq _ (Nat.mod_lt _ (by decide)))) $$ [Hb1 Ho1]
  · isplitl [Hb1] <;> iassumption
  iintro ⟨Hb1, Ho1⟩
  iapply (enq_out d i arg7 X (sem1 arg9) (plN i (2 * t.val + 1)) (k0_off98 i t) _ (by rw [off98_eq, e1])) $$ [Ho1 Hy1 Hso1]
  · isplitl [Ho1]; · iexact Ho1
    isplitl [Hy1] <;> iassumption
  iintro Ho1
  sl_step
  isplitr; · iexact Hmw
  isplitl [HO]; · iexact HO
  isplitl [Hin0]; · iexact Hin0
  isplitl [Hx1 Hb1 Hs1]
  · isplitl [Hx1]; · iexact Hx1
    isplitl [Hb1] <;> iassumption
  isplitl [Ho0]
  · unfold outSt; rw [if_neg (Nat.succ_ne_zero _)]
    iexact Ho0
  isplitl [Ho1]
  · unfold outSt; rw [if_neg (Nat.succ_ne_zero _)]
    iexact Ho1
  isplitl [Htodo]; · iexact Htodo
  iapply (done_step d i X t.val)
  isplitl [Hdone]; · iexact Hdone
  isplitl [Hd0] <;> iassumption

/-- Before the first trip. -/
theorem pairInv_start :
    iprop(MayWaits (thr d i) none O ∗ Ow d i O W ∗ InFl d i arg4 X (sem0 arg8) q0 (plN i (2 * 0))
        ∗ (xTok d X q1 ∗ biAny d i arg5 ∗ zero d i (sem1 arg8))
        ∗ (boAny d i arg6 ∗ zero d i (sem0 arg9)) ∗ (boAny d i arg7 ∗ zero d i (sem1 arg9))
        ∗ bigSep (Finset.range 30) fun k => yAny (F := F) d (plN i k))
      ⊢ pairInv d i X q0 q1 O W arg4 arg5 arg6 arg7 arg8 arg9 0 := by
  have hi : (inSt d i X q0 arg4 arg8 0 : sProp 𝕄) = InFl d i arg4 X (sem0 arg8) q0 (plN i (2 * 0)) := if_pos (by decide)
  have ho0 : (outSt d i X arg6 (sem0 arg9) 0 0 : sProp 𝕄) = iprop(boAny d i arg6 ∗ zero d i (sem0 arg9)) := if_pos rfl
  have ho1 : (outSt d i X arg7 (sem1 arg9) 1 0 : sProp 𝕄) = iprop(boAny d i arg7 ∗ zero d i (sem1 arg9)) := if_pos rfl
  have ht : (todo d i 0 : sProp 𝕄) = bigSep (Finset.range 30) fun k => yAny (F := F) d (plN i k) := by
    unfold todo; rw [show Finset.Ico (2 * 0) 30 = Finset.range 30 from by decide]
  have hd : (done d i X 0 : sProp 𝕄) = iprop(emp) := by
    unfold done; rw [show Finset.range (2 * 0 - 2) = ∅ from rfl, bigSep_empty]; rfl
  unfold pairInv
  rw [hi, ho0, ho1, ht, hd]
  iintro ⟨Hmw, HO, Hin, H1, Ho0, Ho1, Hy⟩
  isplitl [Hmw]; · iexact Hmw
  isplitl [HO]; · iexact HO
  isplitl [Hin]; · iexact Hin
  isplitl [H1]; · iexact H1
  isplitl [Ho0]; · iexact Ho0
  isplitl [Ho1]; · iexact Ho1
  isplitl [Hy]; · iexact Hy
  iempintro

/-- After the last. -/
theorem pairInv_end :
    pairInv d i X q0 q1 O W arg4 arg5 arg6 arg7 arg8 arg9 15
      ⊢ iprop(MayWaits (thr d i) none O ∗ Ow d i O W ∗ (xTok d X q0 ∗ biAny d i arg4 ∗ zero d i (sem0 arg8))
        ∗ (xTok d X q1 ∗ biAny d i arg5 ∗ zero d i (sem1 arg8))
        ∗ OutFl d i arg6 X (sem0 arg9) (plN i 28) ∗ OutFl d i arg7 X (sem1 arg9) (plN i 29) ∗ done d i X 15) := by
  have hi : (inSt d i X q0 arg4 arg8 15 : sProp 𝕄) = iprop(xTok d X q0 ∗ biAny d i arg4 ∗ zero d i (sem0 arg8)) := if_neg (by decide)
  have ho0 : (outSt d i X arg6 (sem0 arg9) 0 15 : sProp 𝕄) = OutFl d i arg6 X (sem0 arg9) (plN i 28) := if_neg (by decide)
  have ho1 : (outSt d i X arg7 (sem1 arg9) 1 15 : sProp 𝕄) = OutFl d i arg7 X (sem1 arg9) (plN i 29) := if_neg (by decide)
  unfold pairInv
  rw [hi, ho0, ho1]
  iintro ⟨Hmw, HO, Hin, H1, Ho0, Ho1, -, Hd⟩
  isplitl [Hmw]; · iexact Hmw
  isplitl [HO]; · iexact HO
  isplitl [Hin]; · iexact Hin
  isplitl [H1]; · iexact H1
  isplitl [Ho0]; · iexact Ho0
  isplitl [Ho1]; · iexact Ho1
  iexact Hd

/-- The last two planes join the others. -/
theorem done_all :
    iprop(done d i X 15 ∗ yAt d X (plN i 28) ∗ yAt d X (plN i 29)) ⊢ (bigSep (Finset.range 30) (fun k => yAt d X (plN i k)) : sProp 𝕄) := by
  have h0 : (outBack d i X 0 15 : sProp 𝕄) = yAt d X (plN i 28) := if_neg (by decide)
  have h1 : (outBack d i X 1 15 : sProp 𝕄) = yAt d X (plN i 29) := if_neg (by decide)
  have h := done_step d i X 15
  rw [h0, h1] at h
  exact h

/-- A tile's run: its thirty planes of the output at their values. -/
theorem tile_wp :
    iprop(MayWaits (thr d i) none O ∗ Ow d i O W ∗ (xTok d X q0 ∗ biAny d i arg4 ∗ zero d i (sem0 arg8))
        ∗ (xTok d X q1 ∗ biAny d i arg5 ∗ zero d i (sem1 arg8))
        ∗ (boAny d i arg6 ∗ zero d i (sem0 arg9)) ∗ (boAny d i arg7 ∗ zero d i (sem1 arg9))
        ∗ bigSep (Finset.range 30) fun k => yAny (F := F) d (plN i k))
      ⊢ wp frame (wpE (defs₀ (F := F)) 𝒱₀ (thr d i) none) Set.univ
          (tileProg i xV yV arg4 harg4 arg5 harg5 arg6 harg6 arg7 harg7 arg8 arg9 (widBV i) laneG)
          fun _ => iprop(Ow d i O W ∗ (xTok d X q0 ∗ biAny d i arg4 ∗ zero d i (sem0 arg8))
            ∗ (xTok d X q1 ∗ biAny d i arg5 ∗ zero d i (sem1 arg8))
            ∗ (boAny d i arg6 ∗ zero d i (sem0 arg9)) ∗ (boAny d i arg7 ∗ zero d i (sem1 arg9))
            ∗ bigSep (Finset.range 30) fun k => yAt d X (plN i k)) := by
  unfold tileProg Scf.Loop.for
  iintro ⟨#Hmw, HO, H0, H1, Ho0, Ho1, Hy⟩
  iapply (enq_in d i arg4 X (sem0 arg8) q0 (plN i (2 * 0)) (k0_off1 i) _ (by rw [off1_eq, plN_val i (by omega)])) $$ H0
  iintro Hin
  have hbody : ∀ (t : Fin (Scf.trips k0_t1_loop.lb k0_t1_loop.ub k0_t1_loop.st)) (acc : PUnit),
      pairInv d i X q0 q1 O W arg4 arg5 arg6 arg7 arg8 arg9 t.val
        ⊢ wp frame (wpE (defs₀ (F := F)) 𝒱₀ (thr d i) none) Set.univ
          (pairProg i xV yV arg4 harg4 arg5 harg5 arg6 harg6 arg7 harg7 arg8 arg9 (widBV i) laneG t)
          fun _ => pairInv d i X q0 q1 O W arg4 arg5 arg6 arg7 arg8 arg9 (t.val + 1) :=
    fun t _ => pair_wp d i X q0 q1 O W arg4 harg4 arg5 harg5 arg6 harg6 arg7 harg7 arg8 arg9 t
  iapply (Scf.wp_for_bind frame _ Set.univ _ _ _ _ _ _ (fun t _ => pairInv d i X q0 q1 O W arg4 arg5 arg6 arg7 arg8 arg9 t) hbody) $$ [HO Hin H1 Ho0 Ho1 Hy]
  · iapply (pairInv_start d i X q0 q1 O W arg4 arg5 arg6 arg7 arg8 arg9)
    isplitr; · iexact Hmw
    isplitl [HO]; · iexact HO
    isplitl [Hin]; · iexact Hin
    isplitl [H1]; · iexact H1
    isplitl [Ho0]; · iexact Ho0
    isplitl [Ho1]; · iexact Ho1
    iexact Hy
  iintro %_ HI
  ihave HI := (Entails.of_eq (congrArg (pairInv d i X q0 q1 O W arg4 arg5 arg6 arg7 arg8 arg9) trips_15)) $$ HI
  ihave HI := (pairInv_end d i X q0 q1 O W arg4 arg5 arg6 arg7 arg8 arg9) $$ HI
  icases HI with ⟨-, HO, H0, H1, Ho0, Ho1, Hd⟩
  iapply (wait_out d i arg6 X (sem0 arg9) (plN i 28) (k0_off99 i 28#32)) $$ [Ho0 HO]
  · isplitl [Ho0]; · iexact Ho0
    isplitl [HO]; · iexact HO
    iexact Hmw
  iintro ⟨Hy0, Hb0, Hs0, HO⟩
  iapply (wait_out d i arg7 X (sem1 arg9) (plN i 29) (k0_off99 i 29#32)) $$ [Ho1 HO]
  · isplitl [Ho1]; · iexact Ho1
    isplitl [HO]; · iexact HO
    iexact Hmw
  iintro ⟨Hy1, Hb1, Hs1, HO⟩
  sl_step
  isplitl [HO]; · iexact HO
  isplitl [H0]; · iexact H0
  isplitl [H1]; · iexact H1
  isplitl [Hb0 Hs0]
  · isplitl [Hb0] <;> iassumption
  isplitl [Hb1 Hs1]
  · isplitl [Hb1] <;> iassumption
  iapply (done_all d i X)
  isplitl [Hd]; · iexact Hd
  isplitl [Hy0] <;> iassumption

end

end Cert.Proof.KI

end
-- ==== Proof.KI.Task.lean ====
/-
  A tile's task as the launch sees it: the tile's scratch buffers and copy semaphores taken out of what it owns, its run
  (`tile_wp`), and everything given back.
-/
module

public import proofs.«01_k».proof.Proof.KI.TileWp

@[expose] public section

noncomputable section

namespace Cert.Proof.KI

open Cert.KernelIdeal Cert.KernelIdeal.Gen
open Idealize.ShloMosaic
open Idealize.ShloMosaic.Transfers (Flight MayWaits)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section

variable (d : Dev nD) (i : grid0.Coords)

/-- The tile's buffers as the program names them. -/
abbrev bI0 : Memref sig .scVector .vmem S1x128x128 .f32 := Memref.whole cc0_scratch0
abbrev bI1 : Memref sig .scVector .vmem S1x128x128 .f32 := Memref.whole cc0_scratch1
abbrev bO0 : Memref sig .scVector .vmem S1x1x16384 .f32 := Memref.whole cc0_scratch2
abbrev bO1 : Memref sig .scVector .vmem S1x1x16384 .f32 := Memref.whole cc0_scratch3

/-- Its four copy semaphores. -/
abbrev cI0 : GSem nD τ sig := (thr d i, .dma (sem0 cc0_scratch4))
abbrev cI1 : GSem nD τ sig := (thr d i, .dma (sem1 cc0_scratch4))
abbrev cO0 : GSem nD τ sig := (thr d i, .dma (sem0 cc0_scratch5))
abbrev cO1 : GSem nD τ sig := (thr d i, .dma (sem1 cc0_scratch5))

omit [FloatOps F] in
theorem cell_ne {a b : SemLoc sig} (h : a ≠ b) : ((thr d i, a) : GSem nD τ sig) ≠ (thr d i, b) := fun e => h (Prod.mk.inj e).2

/-- The cells that are not one of the four. -/
def restCells : Finset (GSem nD τ sig) := ((((ownCells (thr d i)).erase (cI0 d i)).erase (cI1 d i)).erase (cO0 d i)).erase (cO1 d i)

omit [FloatOps F] in
theorem ownSems0_V :
    (ownSems0 (thr d i) : sProp 𝕄)
      = iprop(semVal (cI0 d i) 0 ∗ semVal (cI1 d i) 0 ∗ semVal (cO0 d i) 0 ∗ semVal (cO1 d i) 0 ∗ bigSep (restCells d i) fun g => semVal g 0) := by
  have h0 : cI0 d i ∈ ownCells (thr d i) := mem_ownCells.mpr ⟨rfl, show (SemLoc.dma (sem0 cc0_scratch4) : SemLoc sig).isScoped .scVector = true by decide⟩
  have h1 : cI1 d i ∈ ownCells (thr d i) := mem_ownCells.mpr ⟨rfl, show (SemLoc.dma (sem1 cc0_scratch4) : SemLoc sig).isScoped .scVector = true by decide⟩
  have h2 : cO0 d i ∈ ownCells (thr d i) := mem_ownCells.mpr ⟨rfl, show (SemLoc.dma (sem0 cc0_scratch5) : SemLoc sig).isScoped .scVector = true by decide⟩
  have h3 : cO1 d i ∈ ownCells (thr d i) := mem_ownCells.mpr ⟨rfl, show (SemLoc.dma (sem1 cc0_scratch5) : SemLoc sig).isScoped .scVector = true by decide⟩
  have n10 : cI1 d i ≠ cI0 d i := cell_ne d i (by decide)
  have n20 : cO0 d i ≠ cI0 d i := cell_ne d i (by decide)
  have n21 : cO0 d i ≠ cI1 d i := cell_ne d i (by decide)
  have n30 : cO1 d i ≠ cI0 d i := cell_ne d i (by decide)
  have n31 : cO1 d i ≠ cI1 d i := cell_ne d i (by decide)
  have n32 : cO1 d i ≠ cO0 d i := cell_ne d i (by decide)
  unfold SparseCore.Cfg.ownSems0 restCells
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-- A scratch buffer as the tile's processor holds it. -/
abbrev rf (b : Ref sig .scVector) : DevRef τ sig := (Proc.scVector (cT i) (jT i)).devRef b

/-- The buffers that are not one of the four. -/
def restRefs : Finset (DevRef τ sig) :=
  ((((ownRefs (τ := τ) (.scVector (cT i) (jT i))).erase (rf i cc0_scratch0)).erase (rf i cc0_scratch1)).erase (rf i cc0_scratch2)).erase (rf i cc0_scratch3)

omit [FloatOps F] in
theorem rf_ne {a b : Ref sig .scVector} (h : a ≠ b) : rf i a ≠ rf i b := fun e => h (Proc.devRef_injective _ e)

omit [FloatOps F] in
theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (restRefs i) fun b => iprop(∃ f, ((d, b) : Loc nD τ sig) ↦{fullShare} f)) := by
  have h0 : rf i cc0_scratch0 ∈ ownRefs (τ := τ) (.scVector (cT i) (jT i)) := SparseCore.Cfg.mem_ownRefs_of_owner (p := Proc.scVector (cT i) (jT i)) rfl
  have h1 : rf i cc0_scratch1 ∈ ownRefs (τ := τ) (.scVector (cT i) (jT i)) := SparseCore.Cfg.mem_ownRefs_of_owner (p := Proc.scVector (cT i) (jT i)) rfl
  have h2 : rf i cc0_scratch2 ∈ ownRefs (τ := τ) (.scVector (cT i) (jT i)) := SparseCore.Cfg.mem_ownRefs_of_owner (p := Proc.scVector (cT i) (jT i)) rfl
  have h3 : rf i cc0_scratch3 ∈ ownRefs (τ := τ) (.scVector (cT i) (jT i)) := SparseCore.Cfg.mem_ownRefs_of_owner (p := Proc.scVector (cT i) (jT i)) rfl
  have n10 : rf i cc0_scratch1 ≠ rf i cc0_scratch0 := rf_ne i (by decide)
  have n20 : rf i cc0_scratch2 ≠ rf i cc0_scratch0 := rf_ne i (by decide)
  have n21 : rf i cc0_scratch2 ≠ rf i cc0_scratch1 := rf_ne i (by decide)
  have n30 : rf i cc0_scratch3 ≠ rf i cc0_scratch0 := rf_ne i (by decide)
  have n31 : rf i cc0_scratch3 ≠ rf i cc0_scratch1 := rf_ne i (by decide)
  have n32 : rf i cc0_scratch3 ≠ rf i cc0_scratch2 := rf_ne i (by decide)
  unfold SparseCore.Cfg.ownBufs restRefs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

omit [FloatOps F] in
/-- The four buffers at anything, as the copies' rules speak of them. -/
theorem biAny0 : (biAny d i bI0 : sProp 𝕄) = iprop(∃ f, (thr d i).loc cc0_scratch0 ↦{fullShare} f) := by
  unfold biAny; simp only [Memref.view_whole, View.set_whole]; try rfl
omit [FloatOps F] in
theorem biAny1 : (biAny d i bI1 : sProp 𝕄) = iprop(∃ f, (thr d i).loc cc0_scratch1 ↦{fullShare} f) := by
  unfold biAny; simp only [Memref.view_whole, View.set_whole]; try rfl
omit [FloatOps F] in
theorem boAny0 : (boAny d i bO0 : sProp 𝕄) = iprop(∃ f, (thr d i).loc cc0_scratch2 ↦{fullShare} f) := by
  unfold boAny; simp only [Memref.view_whole, View.set_whole]; try rfl
omit [FloatOps F] in
theorem boAny1 : (boAny d i bO1 : sProp 𝕄) = iprop(∃ f, (thr d i).loc cc0_scratch3 ↦{fullShare} f) := by
  unfold boAny; simp only [Memref.view_whole, View.set_whole]; try rfl

/-- The two read shares that a tile's share `q` of the input gives its two input buffers. -/
abbrev slot (q : PosShare TreeShare) (s : Fin 2) : PosShare TreeShare := Transfers.dealOf q (Finset.univ : Finset (Fin 2)) s

omit [FloatOps F] in
theorem xTok_slots (X : S960x128x128.Idx → F .f32) (q : PosShare TreeShare) :
    (xTok d X q : sProp 𝕄) = iprop(xTok d X (slot q 0) ∗ xTok d X (slot q 1)) := by
  unfold xTok
  rw [Transfers.pointsTo_deal (Finset.univ : Finset (Fin 2)) Finset.univ_nonempty q, bigSep_univ_two]

/-- The program that tile `i` runs. -/
abbrev taskProg : TileProg F i Unit :=
  cc0__sc_body i xV (Memref.isWhole_whole _) yV (Memref.isWhole_whole _) bI0 (Memref.isWhole_whole _) bI1 (Memref.isWhole_whole _)
    bO0 (Memref.isWhole_whole _) bO1 (Memref.isWhole_whole _) cc0_scratch4 cc0_scratch5

/-- The task: from a read share of the input and the tile's thirty planes of the output at anything, to the same share
    and the thirty planes at their values. -/
theorem task_wp (X : S960x128x128.Idx → F .f32) (q : PosShare TreeShare) (O : CellTallies nD τ sig (HIx 1)) (W : Waits sig (HIx 1)) (hO : ∀ g, O g none = 0) :
    iprop(levAts (K (F := F)).L (K (F := F)).lev ∗ iprop(emp) ∗ (xTok d X q ∗ bigSep (Finset.range 30) fun k => yAny (F := F) d (plN i k))
        ∗ scopedBufs (thr d i) ∗ scopedSems0 (thr d i) ∗ owes (thr d i) O W)
      ⊢ wp frame (wpE (defs₀ (F := F)) 𝒱₀ (thr d i) none) Set.univ (taskProg i)
          fun _ => iprop((xTok d X q ∗ bigSep (Finset.range 30) fun k => yAt d X (plN i k))
            ∗ scopedBufs (thr d i) ∗ scopedSems0 (thr d i) ∗ ∃ W', ⌜∀ p ∈ W', p ∈ W ∨ p.2 = none⌝ ∗ owes (thr d i) O W') := by
  unfold taskProg
  rw [body_eq, (K (F := F)).scopedBufs_V facts d (cT i) (jT i), SparseCore.Cfg.scopedSems0_V (Val := Elt F) d (cT i) (jT i), ownSems0_V, ownBufs_V,
    ← biAny0, ← biAny1, ← boAny0, ← boAny1, xTok_slots]
  iintro ⟨#Hlv, -, ⟨⟨Hx0, Hx1⟩, Hy⟩, ⟨Hb0, Hb1, Ho0, Ho1, Hbufs⟩, ⟨Hs0, Hs1, Ht0, Ht1, Hsems⟩, HO⟩
  ihave Hmw := ((K (F := F)).mayWaits_none (thr := thr d i) hO) $$ Hlv
  iapply (wp_wand frame _ _) $$ [Hmw Hx0 Hx1 Hy Hb0 Hb1 Ho0 Ho1 Hs0 Hs1 Ht0 Ht1 HO]
  · iapply (tile_wp d i X (slot q 0) (slot q 1) O W bI0 (Memref.isWhole_whole _) bI1 (Memref.isWhole_whole _) bO0 (Memref.isWhole_whole _) bO1 (Memref.isWhole_whole _) cc0_scratch4 cc0_scratch5)
    isplitl [Hmw]; · iexact Hmw
    isplitl [HO]
    · unfold Ow
      iexists W
      isplitr
      · ipureintro; exact fun p hp => .inl hp
      · iexact HO
    isplitl [Hx0 Hb0 Hs0]
    · isplitl [Hx0]; · iexact Hx0
      isplitl [Hb0] <;> iassumption
    isplitl [Hx1 Hb1 Hs1]
    · isplitl [Hx1]; · iexact Hx1
      isplitl [Hb1] <;> iassumption
    isplitl [Ho0 Ht0]
    · isplitl [Ho0] <;> iassumption
    isplitl [Ho1 Ht1]
    · isplitl [Ho1] <;> iassumption
    iexact Hy
  iintro %_ ⟨HO, ⟨Hx0, Hb0, Hs0⟩, ⟨Hx1, Hb1, Hs1⟩, ⟨Ho0, Ht0⟩, ⟨Ho1, Ht1⟩, Hy⟩
  isplitl [Hx0 Hx1 Hy]
  · isplitl [Hx0 Hx1]
    · isplitl [Hx0] <;> iassumption
    iexact Hy
  isplitl [Hb0 Hb1 Ho0 Ho1 Hbufs]
  · isplitl [Hb0]; · iexact Hb0
    isplitl [Hb1]; · iexact Hb1
    isplitl [Ho0]; · iexact Ho0
    isplitl [Ho1] <;> iassumption
  isplitl [Hs0 Hs1 Ht0 Ht1 Hsems]
  · isplitl [Hs0]; · iexact Hs0
    isplitl [Hs1]; · iexact Hs1
    isplitl [Ht0]; · iexact Ht0
    isplitl [Ht1] <;> iassumption
  iapply (Entails.of_eq (show (Ow (F := F) d i O W : sProp 𝕄) = iprop(∃ W', ⌜∀ p ∈ W', p ∈ W ∨ p.2 = none⌝ ∗ owes (thr d i) O W') from rfl))
  iexact HO

end

end Cert.Proof.KI

end
-- ==== Proof.KI.Launch.lean ====
/-
  The launch: what the one call hands the SparseCores and their tiles, how the arrays split among them, @main around the
  call, and the program's run. The input goes out as read shares; the output goes out by planes, each at anything, and
  comes back by planes at their values.
-/
module

public import proofs.«01_k».proof.Proof.KI.Task
public import Idealize.ShloMosaic.Lib.SparseCore.Quiescent
public import Idealize.ShloMosaic.Lib.StableHlo.Run

@[expose] public section

noncomputable section

namespace Cert.Proof.KI

open Cert.KernelIdeal Cert.KernelIdeal.Gen
open Idealize.ShloMosaic
open Idealize.ShloMosaic.Transfers (Flight MayWaits)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The planes among the tiles -/

/-- The tile number `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile of the call. -/
abbrev cd (c : Fin 2) (s : Fin 16) : grid0.Coords := coordsV c s

theorem plN_cd (c : Fin 2) (s : Fin 16) {k : Nat} (h : k < 30) : (plN (cd c s) k).val = (2 * s.val + c.val) * 30 + k := plN_val (cd c s) h

/-- The elements at a place: SparseCore, tile, and the plane's number among the tile's thirty. -/
abbrev placeSet (d : Dev nD) (t : (Fin 2 × Fin 16) × Fin 30) : Finset (Idx (yLoc d)) := outSet d (plN (cd t.1.1 t.1.2) t.2.val)

/-- An element of the output lies in plane `p` when its coordinates name it. -/
theorem mem_outSet (d : Dev nD) (p : Fin 960) (y : S5x64x49152.Idx) :
    y ∈ outSet d p ↔ (y 0).val * 192 + (y 1).val * 3 + (y 2).val / 16384 = p.val := by
  have h0 : (y 0).val < 5 := (y 0).isLt
  have h1 : (y 1).val < 64 := (y 1).isLt
  have h2 : (y 2).val < 49152 := (y 2).isLt
  have hp := p.isLt
  constructor
  · intro h
    obtain ⟨x, -, hx⟩ := Finset.mem_map.mp h
    have hx' : (outP p).emb x = y := hx
    have x0 : (x 0).val < 1 := (x 0).isLt
    have x1 : (x 1).val < 1 := (x 1).isLt
    have x2 : (x 2).val < 16384 := (x 2).isLt
    have e0 : (y 0).val = p.val / 192 + 1 * (x 0).val := by rw [← hx']; rfl
    have e1 : (y 1).val = p.val % 192 / 3 + 1 * (x 1).val := by rw [← hx']; rfl
    have e2 : (y 2).val = p.val % 3 * 16384 + 1 * (x 2).val := by rw [← hx']; rfl
    omega
  · intro h
    refine Finset.mem_map.mpr ⟨(fun | ⟨0, _⟩ => ⟨0, Nat.one_pos⟩ | ⟨1, _⟩ => ⟨0, Nat.one_pos⟩ | ⟨2, _⟩ => ⟨(y 2).val % 16384, Nat.mod_lt _ (by decide)⟩ : S1x1x16384.Idx), Finset.mem_univ _, ?_⟩
    show (outP p).emb _ = y
    refine funext fun a => Fin.ext ?_
    match a with
    | ⟨0, _⟩ => show p.val / 192 + 1 * 0 = (y 0).val; omega
    | ⟨1, _⟩ => show p.val % 192 / 3 + 1 * 0 = (y 1).val; omega
    | ⟨2, _⟩ => show p.val % 3 * 16384 + 1 * ((y 2).val % 16384) = (y 2).val; omega

/-- Different places hold no element in common. -/
theorem places_disjoint (d : Dev nD) : ∀ t ∈ (Finset.univ : Finset ((Fin 2 × Fin 16) × Fin 30)), ∀ t' ∈ (Finset.univ : Finset ((Fin 2 × Fin 16) × Fin 30)), t ≠ t' → Disjoint (placeSet d t) (placeSet d t') := by
  rintro ⟨⟨c, s⟩, k⟩ ht ⟨⟨c', s'⟩, k'⟩ ht' hne
  have hk : k.val < 30 := k.isLt
  have hk' : k'.val < 30 := k'.isLt
  refine Finset.disjoint_left.mpr fun y h h' => hne ?_
  have e := ((mem_outSet d _ y).mp h).symm.trans ((mem_outSet d _ y).mp h')
  have e : (plN (cd c s) k.val).val = (plN (cd c' s') k'.val).val := e
  rw [plN_cd c s hk, plN_cd c' s' hk'] at e
  have hc := c.isLt
  have hc' := c'.isLt
  have e1 : k = k' := Fin.ext (by omega)
  have e2 : c = c' := Fin.ext (by omega)
  have e3 : s = s' := Fin.ext (by omega)
  rw [e1, e2, e3]

/-- Every plane has a place. -/
theorem exists_place (p : Fin 960) : ∃ t : (Fin 2 × Fin 16) × Fin 30, plN (cd t.1.1 t.1.2) t.2.val = p := by
  have hp := p.isLt
  refine ⟨((⟨p.val / 30 % 2, Nat.mod_lt _ (by decide)⟩, ⟨p.val / 60, by omega⟩), ⟨p.val % 30, Nat.mod_lt _ (by decide)⟩), Fin.ext ?_⟩
  refine (plN_cd _ _ (Nat.mod_lt _ (by decide))).trans ?_
  show (2 * (p.val / 60) + p.val / 30 % 2) * 30 + p.val % 30 = p.val
  omega

/-- Every element lies in a plane. -/
theorem exists_outSet (d : Dev nD) (y : S5x64x49152.Idx) : ∃ p : Fin 960, y ∈ outSet d p := by
  have h0 : (y 0).val < 5 := (y 0).isLt
  have h1 : (y 1).val < 64 := (y 1).isLt
  have h2 : (y 2).val < 49152 := (y 2).isLt
  exact ⟨⟨(y 0).val * 192 + (y 1).val * 3 + (y 2).val / 16384, by omega⟩, (mem_outSet d _ y).mpr rfl⟩

/-- Every element lies at a place. -/
theorem mem_places (d : Dev nD) (y : Idx (yLoc d)) : ∃ t, y ∈ placeSet d t := by
  obtain ⟨p, hy⟩ := exists_outSet d y
  obtain ⟨t, e⟩ := exists_place p
  exact ⟨t, by unfold placeSet; rw [e]; exact hy⟩

/-- Sets among which every element lies cover the type. -/
theorem cover_of {α ι : Type} [Fintype α] [DecidableEq α] [Fintype ι] (S : ι → Finset α) (h : ∀ y, ∃ t, y ∈ S t) :
    (Finset.univ : Finset ι).biUnion S = Finset.univ :=
  Finset.eq_univ_iff_forall.mpr fun y => (h y).elim fun t ht => Finset.mem_biUnion.mpr ⟨t, Finset.mem_univ _, ht⟩

/-- Together the places hold every element. -/
theorem places_cover (d : Dev nD) : (Finset.univ : Finset ((Fin 2 × Fin 16) × Fin 30)).biUnion (placeSet d) = Finset.univ :=
  cover_of (placeSet d) (mem_places d)

/-- The whole output is its planes, by SparseCore, tile and number. -/
theorem y_planes (d : Dev nD) (f : Buf (Elt F) (yLoc d)) :
    (yLoc d ↦{fullShare} f : sProp 𝕄)
      = bigSep Finset.univ fun c : Fin 2 => bigSep Finset.univ fun s : Fin 16 => bigSep (Finset.range 30) fun k =>
          yLoc d ↦[outSet d (plN (cd c s) k)]{fullShare} f := by
  rw [← places_cover d, pointsTo_biUnion _ (placeSet d) (places_disjoint d), bigSep_univ_prod, bigSep_univ_prod]
  refine bigSep_congr fun c _ => bigSep_congr fun s _ => ?_
  rw [← Nat.Iio_eq_range, ← Fin.map_valEmbedding_univ, bigSep_map]
  rfl

/-! ## What the call carries -/

/-- SparseCore `c`'s read share of the input, and its tile `s`'s. -/
abbrev shC (c : Fin 2) : PosShare TreeShare := Transfers.dealOf fullShare (Finset.univ : Finset (Fin 2)) c
abbrev shT (c : Fin 2) (s : Fin 16) : PosShare TreeShare := Transfers.dealOf (shC c) (Finset.univ : Finset (Fin 16)) s

variable (X : Dev nD → S960x128x128.Idx → F .f32)

/-- What a tile is handed, and what it hands back. -/
def goP (d : Dev nD) (c : Fin 2) (s : Fin 16) : sProp 𝕄 := iprop(xTok d (X d) (shT c s) ∗ bigSep (Finset.range 30) fun k => yAny (F := F) d (plN (cd c s) k))
def tdP (d : Dev nD) (c : Fin 2) (s : Fin 16) : sProp 𝕄 := iprop(xTok d (X d) (shT c s) ∗ bigSep (Finset.range 30) fun k => yAt d (X d) (plN (cd c s) k))

/-- The same of a SparseCore. -/
def stP (d : Dev nD) (c : Fin 2) : sProp 𝕄 :=
  iprop(xTok d (X d) (shC c) ∗ bigSep Finset.univ fun s : Fin 16 => bigSep (Finset.range 30) fun k => yAny (F := F) d (plN (cd c s) k))
def dnP (d : Dev nD) (c : Fin 2) : sProp 𝕄 :=
  iprop(xTok d (X d) (shC c) ∗ bigSep Finset.univ fun s : Fin 16 => bigSep (Finset.range 30) fun k => yAt d (X d) (plN (cd c s) k))

instance xTok_storable (d : Dev nD) (x : S960x128x128.Idx → F .f32) (q : PosShare TreeShare) : BI.Storable (upEmb : UEmb _ 𝕄) (xTok d x q) := by unfold xTok; infer_instance
instance yAny_storable (d : Dev nD) (p : Fin 960) : BI.Storable (upEmb : UEmb _ 𝕄) (yAny (F := F) d p) := by unfold yAny; infer_instance
instance yAt_storable (d : Dev nD) (x : S960x128x128.Idx → F .f32) (p : Fin 960) : BI.Storable (upEmb : UEmb _ 𝕄) (yAt d x p) := by unfold yAt; infer_instance
instance goP_storable (d : Dev nD) (c : Fin 2) (s : Fin 16) : BI.Storable (upEmb : UEmb _ 𝕄) (goP X d c s) := by unfold goP; infer_instance
instance tdP_storable (d : Dev nD) (c : Fin 2) (s : Fin 16) : BI.Storable (upEmb : UEmb _ 𝕄) (tdP X d c s) := by unfold tdP; infer_instance
instance stP_storable (d : Dev nD) (c : Fin 2) : BI.Storable (upEmb : UEmb _ 𝕄) (stP X d c) := by unfold stP; infer_instance
instance dnP_storable (d : Dev nD) (c : Fin 2) : BI.Storable (upEmb : UEmb _ 𝕄) (dnP X d c) := by unfold dnP; infer_instance

/-- The call's payloads, from the input `X`. -/
def P : (K (F := F)).Pay (nD := nD) (Val := Elt F) (Name := ℕ) (U := UU) where
  st := fun q d c => match q with | 0 => stP X d c
  dn := fun q d c => match q with | 0 => dnP X d c
  go := fun q d c s => match q with | 0 => goP X d c s
  td := fun q d c s => match q with | 0 => tdP X d c s
  x := fun _ _ => iprop(emp)

instance P_storable : (P X).IsStorable where
  st q d c := match q with | 0 => (inferInstance : BI.Storable (upEmb : UEmb _ 𝕄) (stP X d c))
  dn q d c := match q with | 0 => (inferInstance : BI.Storable (upEmb : UEmb _ 𝕄) (dnP X d c))
  go q d c s := match q with | 0 => (inferInstance : BI.Storable (upEmb : UEmb _ 𝕄) (goP X d c s))
  td q d c s := match q with | 0 => (inferInstance : BI.Storable (upEmb : UEmb _ 𝕄) (tdP X d c s))

/-! ## The launch theorem's obligations -/

theorem defs₀_vector (c : Fin τ.nSC) (s : Fin τ.nSub) :
    defs₀ (F := F) (.scVector c s) 0 () = SparseCore.onTile hcore0 hsub0 (fun c s => taskProg (coordsV c s)) ⟨⟩ c s := rfl

omit [FloatOps F] in
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_wp d (coordsV ⟨_, hc.1⟩ ⟨_, hc.2⟩) (X d) (shT c i) O W hO).trans (wp_mono frame _ _ fun _ => obl_post)

/-- A SparseCore's share splits among its tiles, and theirs join. -/
theorem vecSplit : (K (F := F)).VecSplit' (P X) 0 := by
  intro d c
  show stP X d c ⊢ |={Set.univ}=> iprop((bigSep Finset.univ fun s : Fin 16 => goP X d c s) ∗ ((bigSep Finset.univ fun s : Fin 16 => tdP X d c s) -∗ dnP X d c))
  have hx : (xTok d (X d) (shC c) : sProp 𝕄) = bigSep Finset.univ fun s : Fin 16 => xTok d (X d) (shT c s) := by
    unfold xTok; exact Transfers.pointsTo_deal (Finset.univ : Finset (Fin 16)) Finset.univ_nonempty (shC c)
  unfold stP dnP goP tdP
  rw [bigSep_sep', bigSep_sep', hx]
  iintro H; imodintro
  isplitl [H]; · iexact H
  iintro H; iexact H

/-! ## The launch element -/

def u₀ : UU := (Rounds.initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun th : Thread nD τ => bigSep Finset.univ fun q : Fin 1 => (P X).x q th) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KI.Run.lean ====
/-
  @main around the call, and the program's run. The launch's input is reshaped into planes, the call fills the planar
  output from it, and the transpose leaves the planar output as the result. Every execution ends, the input is as it
  was, the result holds `resVal` of it, and every semaphore counts zero.
-/
module

public import proofs.«01_k».proof.Proof.KI.Launch

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)
open Idealize.ShloMosaic.Tactic

variable {F : FTy → Type}

local notation "𝕄" => MT nD τ sig (HIx 1) (Elt F) ℕ UU ℕ

/-! ## The TensorCore's four arrays -/

/-- The launch's input and the result on device `d`. -/
abbrev aLoc (d : Dev nD) : Loc nD τ sig := (SparseCore.T d).loc main_arg0
abbrev rLoc (d : Dev nD) : Loc nD τ sig := (SparseCore.T d).loc main_v2

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)

/-- All of them. -/
abbrev S4 : Finset (DevRef τ sig) := {a', x', y', r'}

theorem held_S4 (d : Dev nD) (W : Valuation τ sig (Elt F)) :
    (held (SparseCore.T d) S4 W : sProp 𝕄)
      = iprop((aLoc d ↦{fullShare} W a') ∗ (xLoc d ↦{fullShare} W x') ∗ (yLoc d ↦{fullShare} W y') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (yLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

variable [FloatOps F] (m : (ℓ : Loc nD τ sig) → Buf (Elt F) ℓ) (ρ : Dev nD → PrngReg)

/-! ## The two host operations and the values they leave -/

abbrev opR : HloOp τ sig (Elt F) := StableHlo.reshape main_arg0 main_v0 (rfl : (.f32 : EltTy) = .f32) shapeCasts_S64x15x128x128_S960x128x128
abbrev opT : HloOp τ sig (Elt F) :=
  StableHlo.unary main_v1 main_v2 ((transpose S64x49152x5 [1, 2, 0] · transposes_S5x64x49152_S64x49152x5_1_2_0) : (⟨S5x64x49152, .f32⟩ : BufTy).Contents (Elt F) → (⟨S64x49152x5, .f32⟩ : BufTy).Contents (Elt F))

/-- The input by planes. -/
def planes (A : S64x15x128x128.Idx → F .f32) : S960x128x128.Idx → F .f32 :=
  shapeCast S960x128x128 A shapeCasts_S64x15x128x128_S960x128x128

/-- The result the program leaves, of the launch's input. -/
def resVal (A : S64x15x128x128.Idx → F .f32) : S64x49152x5.Idx → F .f32 :=
  transpose S64x49152x5 [1, 2, 0] (outVal (planes A)) transposes_S5x64x49152_S64x49152x5_1_2_0

/-- The planes device `d`'s launch memory gives. -/
def Xof (d : Dev nD) : S960x128x128.Idx → F .f32 := planes (m (aLoc d))

def V0 (d : Dev nD) : Valuation τ sig (Elt F) := fun b => m (d, b)
/-- After the reshape. -/
def V1 (d : Dev nD) : Valuation τ sig (Elt F) := (opR (F := F)).result (V0 m d)
/-- After the call. -/
def V2 (d : Dev nD) : Valuation τ sig (Elt F) := Function.update (V1 m d) y' (outVal (Xof m d))
/-- After the transpose. -/
def V3 (d : Dev nD) : Valuation τ sig (Elt F) := (opT (F := F)).result (V2 m d)

theorem unscoped_held (d : Dev nD) : (unscopedBufs d (fun b => m ((SparseCore.T d).loc b)) : sProp 𝕄) = held (SparseCore.T d) S4 (V0 m d) := by
  rw [unscopedBufs_eq, held_S4]; rfl

theorem V1_x (d : Dev nD) : V1 m d x' = Xof m d := StableHlo.reshape_result main_arg0 main_v0 _ _ _ _ _
theorem V1_a (d : Dev nD) : V1 m d a' = m (aLoc d) := (opR (F := F)).result_of_not_mem (V0 m d) (b := a') (show a' ∉ ({x'} : Finset (DevRef τ sig)) by decide)

theorem V2_a (d : Dev nD) : V2 m d a' = m (aLoc d) := (Function.update_of_ne (show a' ≠ y' by decide) _ _).trans (V1_a m d)
theorem V2_x (d : Dev nD) : V2 m d x' = V1 m d x' := Function.update_of_ne (show x' ≠ y' by decide) _ _
theorem V2_y (d : Dev nD) : V2 m d y' = outVal (Xof m d) := Function.update_self _ _ _
theorem V2_r (d : Dev nD) : V2 m d r' = V1 m d r' := Function.update_of_ne (show r' ≠ y' by decide) _ _

theorem V3_a (d : Dev nD) : V3 m d a' = m (aLoc d) :=
  ((opT (F := F)).result_of_not_mem (V2 m d) (b := a') (show a' ∉ ({r'} : Finset (DevRef τ sig)) by decide)).trans (V2_a m d)
theorem V3_r (d : Dev nD) : V3 m d r' = resVal (m (aLoc d)) := by
  refine (StableHlo.unary_result main_v1 main_v2 _ _ _ _).trans ?_
  rw [V2_y]; rfl

/-! ## What the call takes and hands back -/

theorem x_cores (d : Dev nD) (X : Dev nD → S960x128x128.Idx → F .f32) :
    (xLoc d ↦{fullShare} X d : sProp 𝕄) = bigSep Finset.univ fun c : Fin 2 => xTok d (X d) (shC c) :=
  Transfers.pointsTo_deal (Finset.univ : Finset (Fin 2)) Finset.univ_nonempty fullShare

theorem yAny_of (d : Dev nD) (p : Fin 960) (f : Buf (Elt F) (yLoc d)) : (yLoc d ↦[outSet d p]{fullShare} f : sProp 𝕄) ⊢ yAny (F := F) d p := by
  unfold yAny
  iintro H; iexists f; iexact H

/-- The reshaped input whole and the planar output, whatever it holds, are what the call takes. -/
theorem st0_of (d : Dev nD) (X : Dev nD → S960x128x128.Idx → F .f32) (f : Buf (Elt F) (yLoc d)) :
    iprop((xLoc d ↦{fullShare} X d) ∗ (yLoc d ↦{fullShare} f)) ⊢ (bigSep Finset.univ fun c : Fin ((K (F := F)).nCore 0) => (P X).st 0 d c : sProp 𝕄) := by
  show _ ⊢ bigSep (Finset.univ : Finset (Fin 2)) fun c => stP X d c
  unfold stP
  rw [bigSep_sep', x_cores, y_planes]
  exact sep_mono_r (bigSep_mono fun c _ => bigSep_mono fun s _ => bigSep_mono fun k _ => yAny_of d _ f)

/-- What it hands back is the reshaped input and the planar output at its values. -/
theorem dn0_eq (d : Dev nD) (X : Dev nD → S960x128x128.Idx → F .f32) :
    (bigSep Finset.univ fun c : Fin ((K (F := F)).nCore 0) => (P X).dn 0 d c : sProp 𝕄)
      = iprop((xLoc d ↦{fullShare} X d) ∗ (yLoc d ↦{fullShare} (outVal (X d) : Buf (Elt F) (yLoc d)))) := by
  show (bigSep (Finset.univ : Finset (Fin 2)) fun c => dnP X d c) = _
  unfold dnP yAt
  rw [bigSep_sep', x_cores, y_planes]

/-! ## @main -/

theorem hR : (opR (F := F)).bufs ⊆ S4 := show ({a', x'} : Finset (DevRef τ sig)) ⊆ S4 by decide
theorem hT : (opT (F := F)).bufs ⊆ S4 := show ({y', r'} : Finset (DevRef τ sig)) ⊆ S4 by decide

/-- What @main leaves: the input at its launch contents, the result at its value. -/
abbrev FIN (d : Dev nD) : sProp 𝕄 := iprop((aLoc d ↦{fullShare} m (aLoc d)) ∗ rLoc d ↦{fullShare} (resVal (m (aLoc d)) : Buf (Elt F) (rLoc d)))

/-- @main on device `d`'s TensorCore: the reshape, the call, the transpose. -/
theorem hmain (κ : GSem nD τ sig → ℕ) (d : Dev nD) :
    iprop((K (F := F)).ctx EH (P (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hheld := (Entails.of_eq (show (held (SparseCore.T d) S4 (((opR (F := F)).result) (V0 m d)) : sProp 𝕄) = held (SparseCore.T d) S4 (V1 m d) from rfl)) $$ Hheld
  ihave Hh := (Entails.of_eq (held_S4 (F := F) d (V1 m d))) $$ Hheld
  icases Hh with ⟨Ha, Hx, Hy, Hr⟩
  ihave Hx := (Entails.of_eq (congrArg (fun f => (xLoc d ↦{fullShare} f : sProp 𝕄)) (V1_x m d))) $$ Hx
  rw [wp_ret]; imodintro
  iapply ((K (F := F)).wp_run (D (F := F)) 𝒱 (EH := EH) (P := P (Xof m)) κ d 0) $$ [Hst Ha Hx Hy Hb Hr Hts]
  isplitr; · iexact Hctx
  isplitl [Hst]; · iexact Hst
  isplitl [Hx Hy]
  · iapply (st0_of d (Xof m) (V1 m d y'))
    isplitl [Hx]; · iexact Hx
    iexact Hy
  iintro ⟨Hst, Hdn⟩
  ihave Hdn' := (Entails.of_eq (dn0_eq d (Xof m))) $$ Hdn
  icases Hdn' with ⟨Hx, Hy⟩
  iapply (wp_hlo_within 𝒱 (SparseCore.T d) none Set.univ (op := opT) (S := S4) hT (V := V2 m d)) $$ [Hb Ha Hx Hy Hr]
  · isplitl [Hb]; · iexact Hb
    rw [held_S4, V2_a, V2_x, V1_x, V2_y, V2_r]
    isplitl [Ha]; · rw [V1_a]; iexact Ha
    isplitl [Hx]; · iexact Hx
    isplitl [Hy]; · iexact Hy
    iexact Hr
  iintro ⟨Hb, Hheld⟩
  ihave Hheld := (Entails.of_eq (show (held (SparseCore.T d) S4 (((opT (F := F)).result) (V2 m d)) : sProp 𝕄) = held (SparseCore.T d) S4 (V3 m d) from rfl)) $$ Hheld
  ihave Hh := (Entails.of_eq (held_S4 (F := F) d (V3 m d))) $$ Hheld
  icases Hh with ⟨Ha, -, -, Hr⟩
  rw [V3_a, V3_r, wp_ret]; imodintro; imodintro
  isplitl [Hst]; · iexact Hst
  isplitr [Hb Hts]
  · isplitl [Ha]; · iexact Ha
    iexact Hr
  isplitl [Hb] <;> iassumption

/-! ## The run -/

def fq (d : Dev nD) (s' : Phys nD τ sig (Elt F)) : Prop :=
  s'.mem.mem (aLoc d) = m (aLoc d) ∧ s'.mem.mem (rLoc d) = (resVal (m (aLoc d)) : Buf (Elt F) (rLoc d))

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := (resVal (m (aLoc d)) : Buf (Elt F) (rLoc d)))) $$ [HSI Hr]
  · isplitl [HSI] <;> iassumption
  icases H with %hr
  ipureintro; exact ⟨funext fun i => ha i (Finset.mem_univ i), funext fun i => hr i (Finset.mem_univ i)⟩

/-- What a run leaves: every input as it was, every result at its value, every counter at zero. -/
def QC : PUnit × MemSt nD τ sig (Elt F) → Prop := fun r =>
  (∀ c : Dev nD, r.2.mem (aLoc c) = m (aLoc c) ∧ r.2.mem (rLoc c) = (resVal (m (aLoc c)) : Buf (Elt F) (rLoc c))) ∧ r.2.sem = fun _ => 0

/-- Every execution of the program from memory `m` ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xof m)) (A := ∅) facts v₀
    (fun q hq => match q with | 0 => nomatch hq)
    (fun q _ => match q with | 0 => tileObl (Xof m))
    (fun q _ => match q with | 0 => SparseCore.Cfg.VecSplit.of_plain (vecSplit (Xof m)))
    m ρ main (fun _ => iprop(emp)) (FIN m) (u₀ (F := F)) (sep_elim_left.trans (hu₀ (Xof m))) (hmain m ρ) (fq m) (hfin m) (QC m) (fun _ h hz => ⟨h, hz⟩)

/-- The frame of the ideal kernel: every execution ends, the input as it was, every counter at zero. -/
theorem frame : Cert.quiescent_KernelIdeal := fun m ρ _ =>
  (θ_run Cert.KernelIdeal.defs _ _).mono (fun _ h => ⟨fun c => (h.1 c).1, h.2⟩) (run_main (F := Ideal) m ρ)

end Cert.Proof.KI

end
-- ==== Proof.FrameK.lean ====
/-
  The frame of the program as it runs on bits: it is the ideal program's text, so the ideal program's run, which holds
  over any float values, is its run.
-/
module

public import proofs.«01_k».proof.Proof.KI.Run
public import proofs.«01_k».proof.Proof.Gen.Kernel

@[expose] public section

noncomputable section

namespace Cert.Proof

open Idealize.ShloMosaic Idealize.SL.Sem

/-- The kernel's frame: every execution ends, the input is as it was, and every semaphore counts zero. -/
theorem frame_kernel : Cert.quiescent_Kernel := fun m ρ _ =>
  (θ_run Cert.KernelIdeal.defs _ _).mono (fun _ h => ⟨fun c => (h.1 c).1, h.2⟩) (KI.run_main (F := Bits) m ρ)

end Cert.Proof

end
-- ==== Proof.Elem.lean ====
/-
  One element's value over the extended reals. `elem` is the problem's mathematics of an element; the kernel's
  computation of it, with its two Newton steps from the reciprocal, is equal to it.
-/
module

public import proofs.«01_k».proof.Proof.KI.Forms
public import Idealize.ShloMosaic.Lib.IdealHost

@[expose] public section

noncomputable section

namespace Cert.Proof

open Idealize.ShloMosaic
open Cert.Proof.KI (elemVal sigS offS expS rowS colS wA hA)

/-! ## The constants -/

theorem bits_2 : Ideal.ofBits .f32 0x40000000#32 = ((2 : ℝ) : EReal) := by
  simp [Ideal.ofBits, Ideal.ieee, -EReal.coe_mul]; norm_num
theorem bits_8 : Ideal.ofBits .f32 0x41000000#32 = ((8 : ℝ) : EReal) := by
  simp [Ideal.ofBits, Ideal.ieee, -EReal.coe_mul]; norm_num
theorem bits_116 : Ideal.ofBits .f32 0x42E80000#32 = ((116 : ℝ) : EReal) := by
  simp [Ideal.ofBits, Ideal.ieee, -EReal.coe_mul]; norm_num
theorem bits_156 : Ideal.ofBits .f32 0x431C0000#32 = ((156 : ℝ) : EReal) := by
  simp [Ideal.ofBits, Ideal.ieee, -EReal.coe_mul]; norm_num
theorem bits_373 : Ideal.ofBits .f32 0x43BA8000#32 = ((373 : ℝ) : EReal) := by
  simp [Ideal.ofBits, Ideal.ieee, -EReal.coe_mul]; norm_num
theorem bits_90 : Ideal.ofBits .f32 0x42B40000#32 = ((90 : ℝ) : EReal) := by
  simp [Ideal.ofBits, Ideal.ieee, -EReal.coe_mul]; norm_num
theorem bits_198 : Ideal.ofBits .f32 0x43460000#32 = ((198 : ℝ) : EReal) := by
  simp [Ideal.ofBits, Ideal.ieee, -EReal.coe_mul]; norm_num
theorem bits_326 : Ideal.ofBits .f32 0x43A30000#32 = ((326 : ℝ) : EReal) := by
  simp [Ideal.ofBits, Ideal.ieee, -EReal.coe_mul]; norm_num

/-- The width and the height of anchor `a`. -/
def wR (a : Nat) : ℝ := if a = 0 then 116 else if a = 1 then 156 else 373
def hR (a : Nat) : ℝ := if a = 0 then 90 else if a = 1 then 198 else 326

theorem wA_eq (a : Nat) : (wA a : Ideal .f32) = ((wR a : ℝ) : EReal) := by
  unfold wA wR
  split_ifs
  · exact bits_116
  · exact bits_156
  · exact bits_373
theorem hA_eq (a : Nat) : (hA a : Ideal .f32) = ((hR a : ℝ) : EReal) := by
  unfold hA hR
  split_ifs
  · exact bits_90
  · exact bits_198
  · exact bits_326

/-! ## The element -/

/-- The number `n` as the programs make it of a 32-bit word. -/
def num (n : Nat) : EReal := FloatOps.sitofp (F := Ideal) .f32 (BitVec.ofNat 32 n)

/-- The sigmoid. -/
def sg (v : EReal) : EReal := Ideal.div 1 (1 + Ideal.exp (-v))

/-- The result's element of channel `c`, anchor `a`, at `row`, `col`, of the input's element `v`. -/
def elem (c a row col : Nat) (v : EReal) : EReal :=
  if c = 0 then (sg v + num col) * ((8 : ℝ) : EReal)
  else if c = 1 then (sg v + num row) * ((8 : ℝ) : EReal)
  else if c = 2 then Ideal.exp v * ((wR a : ℝ) : EReal)
  else if c = 3 then Ideal.exp v * ((hR a : ℝ) : EReal)
  else sg v

/-! ## The kernel's element -/

/-- A Newton step `y (2 - d y)` from the exact reciprocal `y` of `1 + exp (-v)` stays there. -/
theorem newton (v : EReal) : sg v * (((2 : ℝ) : EReal) - (1 + Ideal.exp (-v)) * sg v) = sg v := by
  unfold sg
  induction v using EReal.rec with
  | bot =>
    rw [EReal.neg_bot, Ideal.exp_top, show (1 : EReal) + ⊤ = ⊤ from EReal.coe_add_top 1]
    simp [Ideal.div]
  | top =>
    simp only [EReal.neg_top, Ideal.exp_bot, add_zero]
    rw [show (1 : EReal) = ((1 : ℝ) : EReal) from rfl, Ideal.div_coe (by norm_num), ← EReal.coe_mul, ← EReal.coe_mul, ← EReal.coe_sub, ← EReal.coe_mul]
    norm_num
  | coe r =>
    have h : (1 + Real.exp (-r)) ≠ 0 := by positivity
    rw [← EReal.coe_neg, Ideal.exp_coe, show (1 : EReal) = ((1 : ℝ) : EReal) from rfl, ← EReal.coe_add, Ideal.div_coe h, ← EReal.coe_mul, ← EReal.coe_mul,
      ← EReal.coe_sub, ← EReal.coe_mul]
    congr 1
    field_simp
    norm_num

theorem sigS_eq (v : EReal) : sigS (F := Ideal) v = sg v := by
  have e : sigS (F := Ideal) v
      = (let d := Ideal.ofBits .f32 0x3F800000#32 + Ideal.exp (Ideal.ofBits .f32 0x00000000#32 - v)
         let y := Ideal.div (Ideal.ofBits .f32 0x3F800000#32) d
         let y' := y * (Ideal.ofBits .f32 0x40000000#32 - d * y)
         y' * (Ideal.ofBits .f32 0x40000000#32 - d * y')) := rfl
  rw [e, Ideal.ofBits_one_f32, Ideal.ofBits_zero_f32, bits_2, zero_sub]
  have h := newton v
  unfold sg at h ⊢
  simp only [h]

theorem offS_eq (g v : EReal) : offS (F := Ideal) g v = (sg v + g) * ((8 : ℝ) : EReal) := by
  rw [show offS (F := Ideal) g v = (sigS (F := Ideal) v + g) * Ideal.ofBits .f32 0x41000000#32 from rfl, sigS_eq, bits_8]

theorem expS_eq (w v : EReal) : expS (F := Ideal) w v = Ideal.exp v * w := rfl

theorem rowS_eq (n : Nat) : rowS (F := Ideal) n = num n := rfl

theorem num_eq {n : Nat} (h : n < 128) : num n = ((n : ℝ) : EReal) := by
  show (((BitVec.ofNat 32 n).toInt : ℝ) : EReal) = ((n : ℝ) : EReal)
  rw [BitVec.toInt_ofNat', Int.bmod_eq_of_le (by omega) (by omega)]
  norm_cast

/-- The constants the kernel adds to the lane numbers: sixteen times the chunk's number. -/
theorem bits_16 : Ideal.ofBits .f32 0x41800000#32 = ((16 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_48 : Ideal.ofBits .f32 0x42400000#32 = ((48 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_80 : Ideal.ofBits .f32 0x42A00000#32 = ((80 : ℝ) : EReal) := by
  simp [Ideal.ofBits, Ideal.ieee, -EReal.coe_mul]; norm_num
theorem bits_96 : Ideal.ofBits .f32 0x42C00000#32 = ((96 : ℝ) : EReal) := by
  simp [Ideal.ofBits, Ideal.ieee, -EReal.coe_mul]; norm_num
theorem bits_112 : Ideal.ofBits .f32 0x42E00000#32 = ((112 : ℝ) : EReal) := by
  simp [Ideal.ofBits, Ideal.ieee, -EReal.coe_mul]; norm_num

/-- The lane number a chunk starts from. -/
theorem pay491_eq (n : Nat) : Cert.KernelIdeal.Gen.k0_pay491 (F := Ideal) (KI.lane n) = (((n % 16 : Nat) : ℝ) : EReal) := by
  rw [← num_eq (n := n % 16) (by omega)]
  show FloatOps.sitofp (F := Ideal) .f32 (iota .scVector Cert.KernelIdeal.S16 32 [0] Cert.KernelIdeal.Gen.iota_S16_d0_w32_scVector (KI.lane n)) = _
  rw [iota_single_apply]
  rfl

/-- The kernel's lane numbers of chunk `j`. -/
theorem laneG_eq (j : Fin 8) (n : Nat) : KI.laneG (F := Ideal) j (KI.lane n) = (((16 * j.val + n % 16 : Nat) : ℝ) : EReal) := by
  have h (c : EReal) (k : Nat) (hc : c = ((k : ℝ) : EReal)) : Cert.KernelIdeal.Gen.k0_pay491 (F := Ideal) (KI.lane n) + c = (((k + n % 16 : Nat) : ℝ) : EReal) := by
    rw [pay491_eq, hc, ← EReal.coe_add, ← Nat.cast_add, Nat.add_comm]
  fin_cases j
  · exact h (Ideal.ofBits .f32 0x00000000#32) 0 (by rw [Ideal.ofBits_zero_f32]; simp)
  · exact h (Ideal.ofBits .f32 0x41800000#32) 16 (by rw [bits_16]; norm_num)
  · exact h (Ideal.ofBits .f32 0x42000000#32) 32 (by rw [bits_32]; norm_num)
  · exact h (Ideal.ofBits .f32 0x42400000#32) 48 (by rw [bits_48]; norm_num)
  · exact h (Ideal.ofBits .f32 0x42800000#32) 64 (by rw [bits_64]; norm_num)
  · exact h (Ideal.ofBits .f32 0x42A00000#32) 80 (by rw [bits_80]; norm_num)
  · exact h (Ideal.ofBits .f32 0x42C00000#32) 96 (by rw [bits_96]; norm_num)
  · exact h (Ideal.ofBits .f32 0x42E00000#32) 112 (by rw [bits_112]; norm_num)

/-- The kernel's lane number of a column is the column. -/
theorem colS_eq {n : Nat} (h : n < 128) : colS (F := Ideal) n = num n := by
  unfold colS
  rw [laneG_eq, num_eq h]
  have e : 16 * (n / 16 % 8) + n % 16 = n := by omega
  show (((16 * (n / 16 % 8) + n % 16 : Nat) : ℝ) : EReal) = _
  rw [e]

/-- The kernel computes the element. -/
theorem elemVal_eq (c a row col : Nat) (h : col < 128) (v : EReal) : elemVal (F := Ideal) c a row col v = elem c a row col v := by
  unfold elemVal elem
  rw [offS_eq, offS_eq, expS_eq, expS_eq, sigS_eq, rowS_eq, colS_eq h, wA_eq, hA_eq]

end Cert.Proof

end
-- ==== Proof.RefValue.lean ====
/-
  What the reference computes, element by element, over the extended reals: the result's element of image `b`, box
  `n`, channel `ch` is `elem` of the input's element in channel `5 a + ch` of anchor `a = n / 16384`, at row
  `n % 16384 / 128` and column `n % 128`. The reference's parts are named (the slice of a channel, the sigmoid, the
  grid numbers, the anchors' sides, the four boxes' pieces), each is read at an index, and `ref_apply` joins them.
-/
module

public import proofs.«01_k».proof.Proof.Elem
public import proofs.«01_k».proof.Proof.Gen.ReferenceIdeal.Run
public import Idealize.ShloMosaic.Lib.Pointwise

@[expose] public section

noncomputable section

namespace Cert.Proof.RV

open Cert.ReferenceIdeal Cert.ReferenceIdeal.Gen
open Idealize.ShloMosaic
open Cert.Proof (elem sg num wR hR)

/-- The input array. -/
abbrev In := FVec Ideal S64x15x128x128 .f32
/-- One value for each image, anchor, row and column. -/
abbrev Cells := FVec Ideal S64x3x128x128 .f32

/-- The channel `5 a + k` of a box's anchor `a`. -/
def chan (a : Fin 3) (k : Fin 5) : Fin 15 := ⟨a.val * 5 + k.val, by omega⟩

/-- The prediction's values of channel `k`. -/
def slice (k : Nat) (h : S64x3x128x128x5.Slices ![0, 0, 0, 0, k] S64x3x128x128x1) (A : In) : Cells :=
  shapeCast _ (extractStridedSlice S64x3x128x128x1 ![0, 0, 0, 0, k] (transpose S64x3x128x128x5 [0, 1, 3, 4, 2] (shapeCast _ A shapeCasts_S64x15x128x128_S64x3x5x128x128) transposes_S64x3x5x128x128_S64x3x128x128x5_0_1_3_4_2) h) shapeCasts_S64x3x128x128x1_S64x3x128x128

/-- The slice of channel `k` reads the input's channel `5 a + k`. -/
theorem slice_apply (k : Fin 5) (h : S64x3x128x128x5.Slices ![0, 0, 0, 0, k.val] S64x3x128x128x1) (A : In) (b : Fin 64) (a : Fin 3) (r c : Fin 128) :
    slice k.val h A (ix4 b a r c) = A (ix4 b (chan a k) r c) := by
  unfold slice
  rw [shapeCast_apply _ _ _ (ix5 b a r c (0 : Fin 1)) (by
    rw [Shape.rowMajor_val_five, Shape.rowMajor_val_four]
    show (((b.val * 3 + a.val) * 128 + r.val) * 128 + c.val) * 1 + 0 = ((b.val * 3 + a.val) * 128 + r.val) * 128 + c.val
    omega)]
  rw [extractStridedSlice_apply _ _ _ _ (ix5 b a r c k) (by
    intro x
    fin_cases x
    · show b.val = 0 + b.val; omega
    · show a.val = 0 + a.val; omega
    · show r.val = 0 + r.val; omega
    · show c.val = 0 + c.val; omega
    · show k.val = k.val + 0; omega)]
  rw [transpose_apply _ _ _ _ (ix5 b a k r c) (by
    intro x
    fin_cases x <;> rfl)]
  refine shapeCast_apply _ _ _ _ ?_
  rw [Shape.rowMajor_val_five, Shape.rowMajor_val_four]
  show ((b.val * 15 + (a.val * 5 + k.val)) * 128 + r.val) * 128 + c.val = (((b.val * 3 + a.val) * 5 + k.val) * 128 + r.val) * 128 + c.val
  omega

/-- The reference's sigmoid. -/
def sigm (x : Cells) : Cells :=
  Host.divf (broadcastInDim S64x3x128x128 ![] bcast_S_S64x3x128x128 (constant S_ .f32 0x3F800000#32)) (addf (broadcastInDim S64x3x128x128 ![] bcast_S_S64x3x128x128 (constant S_ .f32 0x3F800000#32)) (Host.exp (Host.negf x)))

/-- It is the sigmoid of each value. -/
theorem sigm_apply (x : Cells) (j : S64x3x128x128.Idx) : sigm x j = sg (x j) := by
  have e : sigm x j = Ideal.div (Ideal.ofBits .f32 0x3F800000#32) (Ideal.ofBits .f32 0x3F800000#32 + Ideal.exp (-(x j))) := rfl
  rw [e, Ideal.ofBits_one_f32]
  rfl

/-- The column numbers. -/
def gridC : Cells := broadcastInDim S64x3x128x128 ![0, 1, 2, 3] bcast_S1x1x1x128_S64x3x128x128_0_1_2_3 (shapeCast _ (sitofp .f32 (iotaInDim S128 32 0)) shapeCasts_S128_S1x1x1x128)
/-- The row numbers. -/
def gridR : Cells := broadcastInDim S64x3x128x128 ![0, 1, 2, 3] bcast_S1x1x128x1_S64x3x128x128_0_1_2_3 (shapeCast _ (sitofp .f32 (iotaInDim S128 32 0)) shapeCasts_S128_S1x1x128x1)

/-- The column numbers at an index. -/
theorem gridC_apply (b : Fin 64) (a : Fin 3) (r c : Fin 128) : gridC (ix4 b a r c) = num c.val := by
  unfold gridC
  rw [broadcastInDim_apply _ _ _ _ (ix4 (0 : Fin 1) (0 : Fin 1) (0 : Fin 1) c) (by intro x; fin_cases x <;> rfl)]
  exact shapeCast_apply _ _ _ (ix1 c) (by
    rw [Shape.rowMajor_val_one, Shape.rowMajor_val_four]
    show c.val = ((0 * 1 + 0) * 1 + 0) * 128 + c.val
    omega)

/-- The row numbers at an index. -/
theorem gridR_apply (b : Fin 64) (a : Fin 3) (r c : Fin 128) : gridR (ix4 b a r c) = num r.val := by
  unfold gridR
  rw [broadcastInDim_apply _ _ _ _ (ix4 (0 : Fin 1) (0 : Fin 1) r (0 : Fin 1)) (by intro x; fin_cases x <;> rfl)]
  exact shapeCast_apply _ _ _ (ix1 r) (by
    rw [Shape.rowMajor_val_one, Shape.rowMajor_val_four]
    show r.val = ((0 * 1 + 0) * 128 + r.val) * 1 + 0
    omega)

/-- The anchors' sides over the stride, side `k`. -/
def side (k : Nat) (h : S3x2.Slices ![0, k] S3x1) : Cells :=
  broadcastInDim S64x3x128x128 ![0, 1, 2, 3] bcast_S1x3x1x1_S64x3x128x128_0_1_2_3 (shapeCast _ (shapeCast _ (extractStridedSlice S3x1 ![0, k] (Host.divf ((fun i => FloatOps.ofBits .f32 (lit0 (S3x2.rowMajor i)))) (broadcastInDim S3x2 ![0, 1] bcast_S1x2_S3x2_0_1 (broadcastInDim S1x2 ![1] bcast_S2_S1x2_1 (constant S2 .f32 0x41000000#32)))) h) shapeCasts_S3x1_S3) shapeCasts_S3_S1x3x1x1)

/-- The table's number `2 a + k`, over eight. -/
theorem side_lit (k : Fin 2) (h : S3x2.Slices ![0, k.val] S3x1) (b : Fin 64) (a : Fin 3) (r c : Fin 128) :
    side k.val h (ix4 b a r c) = Ideal.div (Ideal.ofBits .f32 (lit0 ⟨2 * a.val + k.val, by omega⟩)) (Ideal.ofBits .f32 0x41000000#32) := by
  unfold side
  rw [broadcastInDim_apply _ _ _ _ (ix4 (0 : Fin 1) a (0 : Fin 1) (0 : Fin 1)) (by intro x; fin_cases x <;> rfl)]
  rw [shapeCast_apply _ _ _ (ix1 a) (by
    rw [Shape.rowMajor_val_one, Shape.rowMajor_val_four]
    show a.val = ((0 * 3 + a.val) * 1 + 0) * 1 + 0
    omega)]
  rw [shapeCast_apply _ _ _ (ix2 a (0 : Fin 1)) (by
    rw [Shape.rowMajor_val_one, Shape.rowMajor_val_two]
    show a.val * 1 + 0 = a.val
    omega)]
  rw [extractStridedSlice_apply _ _ _ _ (ix2 a k) (by
    intro x
    fin_cases x
    · show a.val = 0 + a.val; omega
    · show k.val = k.val + 0; omega)]
  have e : S3x2.rowMajor (ix2 a k) = ⟨2 * a.val + k.val, by show 2 * a.val + k.val < 6; omega⟩ := Fin.ext (by
    rw [Shape.rowMajor_val_two]
    show a.val * 2 + k.val = 2 * a.val + k.val
    omega)
  show Ideal.div (Ideal.ofBits .f32 (lit0 (S3x2.rowMajor (ix2 a k)))) (Ideal.ofBits .f32 0x41000000#32) = _
  rw [e]
  rfl

/-- The anchors' widths over the stride. -/
theorem side0_apply (b : Fin 64) (a : Fin 3) (r c : Fin 128) : side 0 slices_S3x2_S3x1_0_0 (ix4 b a r c) = Ideal.div ((wR a.val : ℝ) : EReal) ((8 : ℝ) : EReal) := by
  refine (side_lit 0 slices_S3x2_S3x1_0_0 b a r c).trans ?_
  rw [bits_8]
  refine congrArg (Ideal.div · _) ?_
  fin_cases a
  · exact bits_116.trans (by simp [wR])
  · exact bits_156.trans (by simp [wR])
  · exact bits_373.trans (by simp [wR])

/-- The anchors' heights over the stride. -/
theorem side1_apply (b : Fin 64) (a : Fin 3) (r c : Fin 128) : side 1 slices_S3x2_S3x1_0_1 (ix4 b a r c) = Ideal.div ((hR a.val : ℝ) : EReal) ((8 : ℝ) : EReal) := by
  refine (side_lit 1 slices_S3x2_S3x1_0_1 b a r c).trans ?_
  rw [bits_8]
  refine congrArg (Ideal.div · _) ?_
  fin_cases a
  · exact bits_90.trans (by simp [hR])
  · exact bits_198.trans (by simp [hR])
  · exact bits_326.trans (by simp [hR])

/-- A side over the stride, times the stride, is the side. -/
theorem side_stride (x : EReal) (w : ℝ) : x * Ideal.div (w : EReal) ((8 : ℝ) : EReal) * ((8 : ℝ) : EReal) = x * (w : EReal) := by
  rw [Ideal.div_coe (by norm_num), ← EReal.coe_mul, mul_assoc, ← EReal.coe_mul]
  congr 2
  ring

/-- A piece of the boxes' array: one value for each cell, with a last axis of one. -/
def piece (x : Cells) : FVec Ideal S64x3x128x128x1 .f32 := broadcastInDim S64x3x128x128x1 ![0, 1, 2, 3] bcast_S64x3x128x128_S64x3x128x128x1_0_1_2_3 x

theorem piece_apply (x : Cells) (b : Fin 64) (a : Fin 3) (r c : Fin 128) : piece x (ix5 b a r c (0 : Fin 1)) = x (ix4 b a r c) :=
  broadcastInDim_apply _ _ _ _ (ix4 b a r c) (by intro y; fin_cases y <;> rfl)

/-- The boxes' array of its four pieces. -/
def boxes (x : Fin 4 → Cells) : FVec Ideal S64x3x128x128x4 .f32 :=
  concatenate S64x3x128x128x4 4 [⟨S64x3x128x128x1, piece (x 0)⟩, ⟨S64x3x128x128x1, piece (x 1)⟩, ⟨S64x3x128x128x1, piece (x 2)⟩, ⟨S64x3x128x128x1, piece (x 3)⟩] concatenates_S64x3x128x128x1_S64x3x128x128x1_S64x3x128x128x1_S64x3x128x128x1_S64x3x128x128x4_d4

/-- Its last coordinate chooses the piece. -/
theorem boxes_apply (x : Fin 4 → Cells) (b : Fin 64) (a : Fin 3) (r c : Fin 128) (k : Fin 4) : boxes x (ix5 b a r c k) = x k (ix4 b a r c) := by
  have hi : ∀ y : Fin 5, y ≠ 4 → ((ix5 b a r c (0 : Fin 1)) y).val = ((ix5 b a r c k) y).val := by
    intro y hy
    match y with
    | 0 => rfl
    | 1 => rfl
    | 2 => rfl
    | 3 => rfl
    | 4 => exact absurd rfl hy
  rw [← piece_apply (x k)]
  exact concatenate_apply_piece (t := S64x3x128x128x4) (4 : Fin 5)
    [⟨S64x3x128x128x1, piece (x 0)⟩, ⟨S64x3x128x128x1, piece (x 1)⟩, ⟨S64x3x128x128x1, piece (x 2)⟩, ⟨S64x3x128x128x1, piece (x 3)⟩]
    concatenates_S64x3x128x128x1_S64x3x128x128x1_S64x3x128x128x1_S64x3x128x128x1_S64x3x128x128x4_d4 (ix5 b a r c k)
    k.val k.isLt S64x3x128x128x1 (piece (x k)) (by fin_cases k <;> rfl) rfl k.val (by fin_cases k <;> rfl) (ix5 b a r c (0 : Fin 1)) hi rfl

/-- The reference's four pieces of the input. -/
def pieces (A : In) : Fin 4 → Cells
  | 0 => addf (sigm (slice 0 slices_S64x3x128x128x5_S64x3x128x128x1_0_0_0_0_0 A)) gridC
  | 1 => addf (sigm (slice 1 slices_S64x3x128x128x5_S64x3x128x128x1_0_0_0_0_1 A)) gridR
  | 2 => mulf (Host.exp (slice 2 slices_S64x3x128x128x5_S64x3x128x128x1_0_0_0_0_2 A)) (side 0 slices_S3x2_S3x1_0_0)
  | 3 => mulf (Host.exp (slice 3 slices_S64x3x128x128x5_S64x3x128x128x1_0_0_0_0_3 A)) (side 1 slices_S3x2_S3x1_0_1)

/-- A piece's value, times the stride, is the element. -/
theorem pieces_apply (A : In) (b : Fin 64) (a : Fin 3) (r c : Fin 128) (k : Fin 4) :
    pieces A k (ix4 b a r c) * ((8 : ℝ) : EReal) = elem k.val a.val r.val c.val (A (ix4 b (chan a k.castSucc) r c)) := by
  fin_cases k
  · show (sigm (slice (0 : Fin 5).val _ A) (ix4 b a r c) + gridC (ix4 b a r c)) * _ = _
    rw [sigm_apply, slice_apply, gridC_apply]
    rfl
  · show (sigm (slice (1 : Fin 5).val _ A) (ix4 b a r c) + gridR (ix4 b a r c)) * _ = _
    rw [sigm_apply, slice_apply, gridR_apply]
    rfl
  · show Ideal.exp (slice (2 : Fin 5).val _ A (ix4 b a r c)) * side 0 _ (ix4 b a r c) * _ = _
    rw [slice_apply, side0_apply, side_stride]
    rfl
  · show Ideal.exp (slice (3 : Fin 5).val _ A (ix4 b a r c)) * side 1 _ (ix4 b a r c) * _ = _
    rw [slice_apply, side1_apply, side_stride]
    rfl

/-- The result of the four pieces and the sigmoid of the last channel. -/
def result (A : In) : FVec Ideal S64x49152x5 .f32 :=
  concatenate S64x49152x5 2 [⟨S64x49152x4, mulf (shapeCast _ (boxes (pieces A)) shapeCasts_S64x3x128x128x4_S64x49152x4) (broadcastInDim S64x49152x4 ![0, 1, 2] bcast_S1x1x4_S64x49152x4_0_1_2 (broadcastInDim S1x1x4 ![2] bcast_S4_S1x1x4_2 (constant S4 .f32 0x41000000#32)))⟩,
    ⟨S64x49152x1, shapeCast _ (sigm (slice 4 slices_S64x3x128x128x5_S64x3x128x128x1_0_0_0_0_4 A)) shapeCasts_S64x3x128x128_S64x49152x1⟩] concatenates_S64x49152x4_S64x49152x1_S64x49152x5_d2

/-- The reference's composed term is this result. -/
theorem res_eq (m : (ℓ : Loc nD τ sig) → Buf (Elt Ideal) ℓ) (c : Dev nD) :
    Cert.ReferenceIdeal.Value.res_out0 (F := Ideal) m c = result (m ((c.tc : Thread nD τ).loc main_arg0)) := rfl

/-- Box `n`'s anchor, row and column. -/
def anc (n : Fin 49152) : Fin 3 := ⟨n.val / 16384, by omega⟩
def row (n : Fin 49152) : Fin 128 := ⟨n.val % 16384 / 128, by omega⟩
def col (n : Fin 49152) : Fin 128 := ⟨n.val % 128, by omega⟩

/-- The reference's result at an index. -/
theorem result_apply (A : In) (b : Fin 64) (n : Fin 49152) (ch : Fin 5) :
    result A (ix3 b n ch) = elem ch.val (anc n).val (row n).val (col n).val (A (ix4 b (chan (anc n) ch) (row n) (col n))) := by
  unfold result
  by_cases h : ch.val < 4
  · have hi : ∀ y : Fin 3, ((ix3 b n (⟨ch.val, h⟩ : Fin 4)) y).val = ((ix3 b n ch) y).val := by
      intro y
      fin_cases y <;> rfl
    refine (concatenate_pair_apply_left (t := S64x49152x5) (s₁ := S64x49152x4) (s₂ := S64x49152x1) (2 : Fin 3) _ _ _ (ix3 b n ch) rfl (ix3 b n (⟨ch.val, h⟩ : Fin 4)) hi).trans ?_
    refine Eq.trans ?_ (pieces_apply A b (anc n) (row n) (col n) ⟨ch.val, h⟩)
    rw [← boxes_apply (pieces A), ← bits_8]
    refine congrArg (· * Ideal.ofBits .f32 0x41000000#32) ?_
    refine shapeCast_apply _ _ _ _ ?_
    rw [Shape.rowMajor_val_five, Shape.rowMajor_val_three]
    show (((b.val * 3 + n.val / 16384) * 128 + n.val % 16384 / 128) * 128 + n.val % 128) * 4 + ch.val = (b.val * 49152 + n.val) * 4 + ch.val
    omega
  · have e : ch = 4 := Fin.ext (by show ch.val = 4; omega)
    subst e
    have hi : ∀ y : Fin 3, y ≠ 2 → ((ix3 b n (0 : Fin 1)) y).val = ((ix3 b n (4 : Fin 5)) y).val := by
      intro y hy
      match y with
      | 0 => rfl
      | 1 => rfl
      | 2 => exact absurd rfl hy
    refine (concatenate_pair_apply_right (t := S64x49152x5) (s₁ := S64x49152x4) (s₂ := S64x49152x1) (2 : Fin 3) _ _ _ (ix3 b n (4 : Fin 5)) rfl rfl (ix3 b n (0 : Fin 1)) hi rfl).trans ?_
    rw [shapeCast_apply _ _ _ (ix4 b (anc n) (row n) (col n)) (by
      rw [Shape.rowMajor_val_four, Shape.rowMajor_val_three]
      show ((b.val * 3 + n.val / 16384) * 128 + n.val % 16384 / 128) * 128 + n.val % 128 = (b.val * 49152 + n.val) * 1 + 0
      omega)]
    rw [sigm_apply]
    exact congrArg sg (slice_apply 4 _ A b (anc n) (row n) (col n))

end Cert.Proof.RV

end
-- ==== Proof.KernelValue.lean ====
/-
  What the kernel's program leaves, element by element, over the extended reals: the result's element of image `b`,
  box `n`, channel `ch` is `elem` of the input's element in channel `5 a + ch` of anchor `a = n / 16384`, at row
  `n % 16384 / 128` and column `n % 128`.
-/
module

public import proofs.«01_k».proof.Proof.Elem
public import proofs.«01_k».proof.Proof.RefValue
public import proofs.«01_k».proof.Proof.KI.Run

@[expose] public section

noncomputable section

namespace Cert.Proof

open Cert.KernelIdeal Cert.KernelIdeal.Gen
open Idealize.ShloMosaic
open Cert.Proof.KI (resVal outVal planes srcIdx elemVal)
open Cert.Proof.RV (chan anc row col)

/-- The kernel's result at an index. -/
theorem resVal_apply (A : S64x15x128x128.Idx → Ideal .f32) (b : Fin 64) (n : Fin 49152) (ch : Fin 5) :
    resVal (F := Ideal) A (ix3 b n ch) = elem ch.val (anc n).val (row n).val (col n).val (A (ix4 b (chan (anc n) ch) (row n) (col n))) := by
  unfold resVal
  refine (transpose_apply _ _ _ _ (ix3 ch b n) (by intro x; fin_cases x <;> rfl)).trans ?_
  have e : (n.val % 16384) % 128 = n.val % 128 := by omega
  have hp : planes A (srcIdx (ix3 ch b n)) = A (ix4 b (chan (anc n) ch) (row n) (col n)) := by
    refine shapeCast_apply _ _ _ _ ?_
    rw [Shape.rowMajor_val_four, Shape.rowMajor_val_three]
    show ((b.val * 15 + (n.val / 16384 * 5 + ch.val)) * 128 + n.val % 16384 / 128) * 128 + n.val % 128
      = ((b.val * 15 + n.val / 16384 * 5 + ch.val) * 128 + n.val % 16384 / 128) * 128 + n.val % 128
    omega
  show elemVal (F := Ideal) ch.val (n.val / 16384) (n.val % 16384 / 128) (n.val % 128) (planes A (srcIdx (ix3 ch b n))) = _
  rw [elemVal_eq _ _ _ _ (by omega), hp]
  rfl

end Cert.Proof

end
-- ==== Proof.Algebraic.lean ====
/-
  The kernel against the reference over the extended reals: on the same input, both programs end, both leave their
  input as it was, and both leave the same result.
-/
module

public import proofs.«01_k».proof.Proof.KernelValue
public import proofs.«01_k».proof.Proof.RefValue

@[expose] public section

noncomputable section

namespace Cert.Proof

open Idealize.ShloMosaic Idealize.SL.Sem

/-- The two results are the same function of the input. -/
theorem result_eq (A : RV.In) : RV.result A = KI.resVal (F := Ideal) A := by
  funext j
  have e : j = ix3 (j 0) (j 1) (j 2) := by
    funext x
    fin_cases x <;> rfl
  rw [e]
  exact (RV.result_apply A (j 0) (j 1) (j 2)).trans (resVal_apply A (j 0) (j 1) (j 2)).symm

/-- The kernel's program and the reference leave the same result. -/
theorem algebraic : Cert.algebraic_KernelIdeal_ReferenceIdeal := by
  intro m g m' g' _ hm
  refine ⟨fun c => (KI.resVal (F := Ideal) (m (KI.aLoc c)) : Buf (Elt Ideal) (KI.rLoc c)), (θ_run _ _ _).mono (fun r h c => ⟨(h.1 c).2, (h.1 c).1⟩) (KI.run_main (F := Ideal) m g),
    (θ_run _ _ _).mono (fun r h c => ⟨(h c).1.trans ?_, (h c).2⟩) (Cert.ReferenceIdeal.Value.run m' g')⟩
  exact ((RV.res_eq m' c).trans (congrArg RV.result (hm c))).trans (result_eq _)

/-- The reference's frame: it ends, its input is as it was, and every semaphore counts zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.FrameK
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, `preserves` (no rewrite is named, so nothing is to show), and the kernel against the reference. -/
theorem claim : Cert.Claim := ⟨Cert.Kernel.Gen.facts, Cert.KernelIdeal.Gen.facts, Cert.ReferenceIdeal.Gen.facts,
  frame_kernel, KI.frame, frame_reference, trivial, algebraic⟩

end Cert.Proof

end
